-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "s" .f32 0x3D3504F3#32 (((Real.sqrt 512)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![65536, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![65536, 512]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 512]⟩ ⟨2, ![65536, 512]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![65536, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .bf16) (main_arg1 : FVec F S4096x512 .bf16) (main_arg2 : FVec F S4096x512 .bf16) : IVec S_ 1 :=
  let main_cst : FVec F S_ .bf16 := constant S_ .bf16 0xFF80#16
  let main_v0 : FVec F S4096x512 .bf16 := broadcastInDim S4096x512 ![] bcast_S_S4096x512 main_cst
  let main_v1 : IVec S4096x512 1 := cmpf .ogt main_arg0 main_v0
  let main_cst_0 : FVec F S_ .bf16 := constant S_ .bf16 0x7F80#16
  let main_v2 : FVec F S4096x512 .bf16 := broadcastInDim S4096x512 ![] bcast_S_S4096x512 main_cst_0
  let main_v3 : IVec S4096x512 1 := cmpf .olt main_arg0 main_v2
  let main_v4 : IVec S4096x512 1 := andi main_v1 main_v3
  let main_c : IVec S_ 1 := constantI S_ 1 1#1
  let main_v5 : IVec S_ 1 := (fun x v => Host.reduce IntOp.andi x v reducesTo_S4096x512_S_d0_1 h_S_) main_v4 main_c
  let main_cst_1 : FVec F S_ .bf16 := constant S_ .bf16 0xFF80#16
  let main_v6 : FVec F S4096x512 .bf16 := broadcastInDim S4096x512 ![] bcast_S_S4096x512 main_cst_1
  let main_v7 : IVec S4096x512 1 := cmpf .ogt main_arg1 main_v6
  let main_cst_2 : FVec F S_ .bf16 := constant S_ .bf16 0x7F80#16
  let main_v8 : FVec F S4096x512 .bf16 := broadcastInDim S4096x512 ![] bcast_S_S4096x512 main_cst_2
  let main_v9 : IVec S4096x512 1 := cmpf .olt main_arg1 main_v8
  let main_v10 : IVec S4096x512 1 := andi main_v7 main_v9
  let main_c_3 : IVec S_ 1 := constantI S_ 1 1#1
  let main_v11 : IVec S_ 1 := (fun x v => Host.reduce IntOp.andi x v reducesTo_S4096x512_S_d0_1 h_S_) main_v10 main_c_3
  let main_v12 : IVec S_ 1 := andi main_v5 main_v11
  main_v12
-- ==== Pre_finite_scores_ReferenceIdeal.lean ====
abbrev S65536x512 : Shape := ⟨2, ![65536, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel

variable [Facts]

def fn {F : FTy → Type} [FloatOps F] (main_arg0 : FVec F S65536x512 .bf16) (main_arg1 : FVec F S65536x512 .bf16) (main_arg2 : FVec F S65536x512 .bf16) : IVec S_ 1 :=
  let main_cst : FVec F S_ .bf16 := constant S_ .bf16 0xFF80#16
  let main_v0 : FVec F S65536x512 .bf16 := broadcastInDim S65536x512 ![] bcast_S_S65536x512 main_cst
  let main_v1 : IVec S65536x512 1 := cmpf .ogt main_arg0 main_v0
  let main_cst_0 : FVec F S_ .bf16 := constant S_ .bf16 0x7F80#16
  let main_v2 : FVec F S65536x512 .bf16 := broadcastInDim S65536x512 ![] bcast_S_S65536x512 main_cst_0
  let main_v3 : IVec S65536x512 1 := cmpf .olt main_arg0 main_v2
  let main_v4 : IVec S65536x512 1 := andi main_v1 main_v3
  let main_c : IVec S_ 1 := constantI S_ 1 1#1
  let main_v5 : IVec S_ 1 := (fun x v => Host.reduce IntOp.andi x v reducesTo_S65536x512_S_d0_1 h_S_) main_v4 main_c
  let main_cst_1 : FVec F S_ .bf16 := constant S_ .bf16 0xFF80#16
  let main_v6 : FVec F S65536x512 .bf16 := broadcastInDim S65536x512 ![] bcast_S_S65536x512 main_cst_1
  let main_v7 : IVec S65536x512 1 := cmpf .ogt main_arg1 main_v6
  let main_cst_2 : FVec F S_ .bf16 := constant S_ .bf16 0x7F80#16
  let main_v8 : FVec F S65536x512 .bf16 := broadcastInDim S65536x512 ![] bcast_S_S65536x512 main_cst_2
  let main_v9 : IVec S65536x512 1 := cmpf .olt main_arg1 main_v8
  let main_v10 : IVec S65536x512 1 := andi main_v7 main_v9
  let main_c_3 : IVec S_ 1 := constantI S_ 1 1#1
  let main_v11 : IVec S_ 1 := (fun x v => Host.reduce IntOp.andi x v reducesTo_S65536x512_S_d0_1 h_S_) main_v10 main_c_3
  let main_v12 : IVec S_ 1 := andi main_v5 main_v11
  main_v12
-- ==== Kernel.lean ====
abbrev S4096x512 : Shape := ⟨2, ![4096, 512]⟩
abbrev S2x4096x512 : Shape := ⟨3, ![2, 4096, 512]⟩
abbrev S4096x1 : Shape := ⟨2, ![4096, 1]⟩
abbrev S2x2 : Shape := ⟨2, ![2, 2]⟩
abbrev S_ : Shape := ⟨0, ![]⟩
abbrev S1x4096x512 : Shape := ⟨3, ![1, 4096, 512]⟩
abbrev S1x1 : Shape := ⟨2, ![1, 1]⟩
abbrev S1x2048x512 : Shape := ⟨3, ![1, 2048, 512]⟩
abbrev S2048x512 : Shape := ⟨2, ![2048, 512]⟩
abbrev S512x512 : Shape := ⟨2, ![512, 512]⟩
abbrev S512x4096 : Shape := ⟨2, ![512, 4096]⟩
abbrev S512x1 : Shape := ⟨2, ![512, 1]⟩
abbrev S512 : Shape := ⟨1, ![512]⟩

abbrev nBuf : Space → Nat
  | .hbm => 4
  | .vmem => 9
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .f32⟩
  | .local _ .vmem, ⟨4, _⟩ => ⟨S2x4096x512, .bf16⟩
  | .local _ .vmem, ⟨5, _⟩ => ⟨S2x4096x512, .bf16⟩
  | .local _ .vmem, ⟨6, _⟩ => ⟨S4096x512, .f32⟩
  | .local _ .vmem, ⟨7, _⟩ => ⟨S4096x1, .f32⟩
  | .local _ .vmem, ⟨8, _⟩ => ⟨S4096x1, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 3 → Bool
  | ⟨0, _⟩ => true
  | ⟨1, _⟩ => true
  | ⟨2, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 3 20 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_33 : BitVec 32 := 1#32
  let v35 : BitVec 32 := Scalar.muli v7 c1_i32_33
  let v36 : BitVec 32 := Scalar.addi c0_i32_34 v35
  v36.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_45 : BitVec 32 := 1#32
  let v45 : BitVec 32 := Scalar.muli v5 c1_i32_45
  let v46 : BitVec 32 := Scalar.addi c0_i32_46 v45
  v46.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_56 : BitVec 32 := 1#32
  let v55 : BitVec 32 := Scalar.muli v7 c1_i32_56
  let v56 : BitVec 32 := Scalar.addi c0_i32_57 v55
  v56.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_68 : BitVec 32 := 1#32
  let v65 : BitVec 32 := Scalar.muli v5 c1_i32_68
  let v66 : BitVec 32 := Scalar.addi c0_i32_69 v65
  v66.toNat
@[reducible] def k0_t1_loop : Scf.Loop 32 :=
  let c0_i32_75 : BitVec 32 := 0#32
  let c8_i32 : BitVec 32 := 8#32
  let v75 : BitVec 32 := Scalar.addi c0_i32_75 c8_i32
  let c1_i32_76 : BitVec 32 := 1#32
  ⟨c0_i32_75, v75, c1_i32_76⟩
def k0_off1 (k0_t1 : Fin k0_t1_loop.trips) : Fin 2 → Nat :=
  let c0_i32_75 : BitVec 32 := 0#32
  let c1_i32_76 : BitVec 32 := 1#32
  let arg15 : BitVec 32 := Scf.iv c0_i32_75 c1_i32_76 k0_t1
  let c512_i32 : BitVec 32 := 512#32
  let v1552 : BitVec 32 := Scalar.muli arg15 c512_i32
  let v1553 : Index := Scalar.indexCast v1552
  let c0_2351 : Index := 0#32
  ![v1553.toNat, 0]
def k0_off2 (k0_t1 : Fin k0_t1_loop.trips) : Fin 2 → Nat :=
  let c0_i32_75 : BitVec 32 := 0#32
  let c1_i32_76 : BitVec 32 := 1#32
  let arg15 : BitVec 32 := Scf.iv c0_i32_75 c1_i32_76 k0_t1
  let c512_i32 : BitVec 32 := 512#32
  let v1552 : BitVec 32 := Scalar.muli arg15 c512_i32
  let v1562 : Index := Scalar.indexCast v1552
  let c0_2356 : Index := 0#32
  ![v1562.toNat, 0]
def k0_dev7 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_171 : BitVec 32 := 1#32
  let v132 : BitVec 32 := Scalar.muli v5 c1_i32_171
  let v133 : BitVec 32 := Scalar.addi c0_i32_172 v132
  v133.toNat
def k0_dev8 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_174 : BitVec 32 := 1#32
  let v134 : BitVec 32 := Scalar.muli v7 c1_i32_174
  let v135 : BitVec 32 := Scalar.addi c0_i32_175 v134
  v135.toNat
def k0_dev9 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_186 : BitVec 32 := 1#32
  let v136 : BitVec 32 := Scalar.muli v7 c1_i32_186
  let v137 : BitVec 32 := Scalar.addi c0_i32_187 v136
  v137.toNat
def k0_dev10 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_198 : BitVec 32 := 1#32
  let v146 : BitVec 32 := Scalar.muli v5 c1_i32_198
  let v147 : BitVec 32 := Scalar.addi c0_i32_199 v146
  v147.toNat
def k0_dev11 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_210 : BitVec 32 := 1#32
  let v156 : BitVec 32 := Scalar.muli v7 c1_i32_210
  let v157 : BitVec 32 := Scalar.addi c0_i32_211 v156
  v157.toNat
def k0_dev12 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_222 : BitVec 32 := 1#32
  let v166 : BitVec 32 := Scalar.muli v5 c1_i32_222
  let v167 : BitVec 32 := Scalar.addi c0_i32_223 v166
  v167.toNat
@[reducible] def k0_t2_loop : Scf.Loop 32 :=
  let c0_i32_229 : BitVec 32 := 0#32
  let c8_i32_230 : BitVec 32 := 8#32
  let v176 : BitVec 32 := Scalar.addi c0_i32_229 c8_i32_230
  let c1_i32_231 : BitVec 32 := 1#32
  ⟨c0_i32_229, v176, c1_i32_231⟩
def k0_off3 (k0_t2 : Fin k0_t2_loop.trips) : Fin 2 → Nat :=
  let c0_i32_229 : BitVec 32 := 0#32
  let c1_i32_231 : BitVec 32 := 1#32
  let arg15 : BitVec 32 := Scf.iv c0_i32_229 c1_i32_231 k0_t2
  let c512_i32 : BitVec 32 := 512#32
  let v1552 : BitVec 32 := Scalar.muli arg15 c512_i32
  let v1553 : Index := Scalar.indexCast v1552
  let c0_2351 : Index := 0#32
  ![v1553.toNat, 0]
def k0_off4 (k0_t2 : Fin k0_t2_loop.trips) : Fin 2 → Nat :=
  let c0_i32_229 : BitVec 32 := 0#32
  let c1_i32_231 : BitVec 32 := 1#32
  let arg15 : BitVec 32 := Scf.iv c0_i32_229 c1_i32_231 k0_t2
  let c512_i32 : BitVec 32 := 512#32
  let v1552 : BitVec 32 := Scalar.muli arg15 c512_i32
  let v1562 : Index := Scalar.indexCast v1552
  let c0_2356 : Index := 0#32
  ![v1562.toNat, 0]
def k0_dev13 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_326 : BitVec 32 := 1#32
  let v233 : BitVec 32 := Scalar.muli v5 c1_i32_326
  let v234 : BitVec 32 := Scalar.addi c0_i32_327 v233
  v234.toNat
def k0_dev14 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_329 : BitVec 32 := 1#32
  let v235 : BitVec 32 := Scalar.muli v7 c1_i32_329
  let v236 : BitVec 32 := Scalar.addi c0_i32_330 v235
  v236.toNat
def k0_dev15 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_341 : BitVec 32 := 1#32
  let v237 : BitVec 32 := Scalar.muli v7 c1_i32_341
  let v238 : BitVec 32 := Scalar.addi c0_i32_342 v237
  v238.toNat
def k0_dev16 (d0 : Dev nD) : Nat :=
  let c0_i32_354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_353 : BitVec 32 := 1#32
  let v247 : BitVec 32 := Scalar.muli v5 c1_i32_353
  let v248 : BitVec 32 := Scalar.addi c0_i32_354 v247
  v248.toNat
def k0_dev17 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_365 : BitVec 32 := 1#32
  let v257 : BitVec 32 := Scalar.muli v7 c1_i32_365
  let v258 : BitVec 32 := Scalar.addi c0_i32_366 v257
  v258.toNat
def k0_dev18 (d0 : Dev nD) : Nat :=
  let c0_i32_378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_377 : BitVec 32 := 1#32
  let v267 : BitVec 32 := Scalar.muli v5 c1_i32_377
  let v268 : BitVec 32 := Scalar.addi c0_i32_378 v267
  v268.toNat
@[reducible] def k0_t3_loop : Scf.Loop 32 :=
  let c0_i32_384 : BitVec 32 := 0#32
  let c8_i32_385 : BitVec 32 := 8#32
  let v277 : BitVec 32 := Scalar.addi c0_i32_384 c8_i32_385
  let c1_i32_386 : BitVec 32 := 1#32
  ⟨c0_i32_384, v277, c1_i32_386⟩
def k0_off5 (k0_t3 : Fin k0_t3_loop.trips) : Fin 2 → Nat :=
  let c0_i32_384 : BitVec 32 := 0#32
  let c1_i32_386 : BitVec 32 := 1#32
  let arg15 : BitVec 32 := Scf.iv c0_i32_384 c1_i32_386 k0_t3
  let c512_i32 : BitVec 32 := 512#32
  let v1552 : BitVec 32 := Scalar.muli arg15 c512_i32
  let v1553 : Index := Scalar.indexCast v1552
  let c0_2351 : Index := 0#32
  ![v1553.toNat, 0]
def k0_off6 (k0_t3 : Fin k0_t3_loop.trips) : Fin 2 → Nat :=
  let c0_i32_384 : BitVec 32 := 0#32
  let c1_i32_386 : BitVec 32 := 1#32
  let arg15 : BitVec 32 := Scf.iv c0_i32_384 c1_i32_386 k0_t3
  let c512_i32 : BitVec 32 := 512#32
  let v1552 : BitVec 32 := Scalar.muli arg15 c512_i32
  let v1562 : Index := Scalar.indexCast v1552
  let c0_2356 : Index := 0#32
  ![v1562.toNat, 0]
def k0_dev19 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_481 : BitVec 32 := 1#32
  let v334 : BitVec 32 := Scalar.muli v5 c1_i32_481
  let v335 : BitVec 32 := Scalar.addi c0_i32_482 v334
  v335.toNat
def k0_dev20 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_484 : BitVec 32 := 1#32
  let v336 : BitVec 32 := Scalar.muli v7 c1_i32_484
  let v337 : BitVec 32 := Scalar.addi c0_i32_485 v336
  v337.toNat
def k0_dev21 (d0 : Dev nD) : Nat :=
  let c0_i32_497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_496 : BitVec 32 := 1#32
  let v338 : BitVec 32 := Scalar.muli v7 c1_i32_496
  let v339 : BitVec 32 := Scalar.addi c0_i32_497 v338
  v339.toNat
def k0_dev22 (d0 : Dev nD) : Nat :=
  let c0_i32_509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_508 : BitVec 32 := 1#32
  let v348 : BitVec 32 := Scalar.muli v5 c1_i32_508
  let v349 : BitVec 32 := Scalar.addi c0_i32_509 v348
  v349.toNat
def k0_dev23 (d0 : Dev nD) : Nat :=
  let c0_i32_521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_520 : BitVec 32 := 1#32
  let v358 : BitVec 32 := Scalar.muli v7 c1_i32_520
  let v359 : BitVec 32 := Scalar.addi c0_i32_521 v358
  v359.toNat
def k0_dev24 (d0 : Dev nD) : Nat :=
  let c0_i32_533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_532 : BitVec 32 := 1#32
  let v368 : BitVec 32 := Scalar.muli v5 c1_i32_532
  let v369 : BitVec 32 := Scalar.addi c0_i32_533 v368
  v369.toNat
@[reducible] def k0_t4_loop : Scf.Loop 32 :=
  let c0_i32_539 : BitVec 32 := 0#32
  let c8_i32_540 : BitVec 32 := 8#32
  let v378 : BitVec 32 := Scalar.addi c0_i32_539 c8_i32_540
  let c1_i32_541 : BitVec 32 := 1#32
  ⟨c0_i32_539, v378, c1_i32_541⟩
def k0_off7 (k0_t4 : Fin k0_t4_loop.trips) : Fin 2 → Nat :=
  let c0_i32_539 : BitVec 32 := 0#32
  let c1_i32_541 : BitVec 32 := 1#32
  let arg15 : BitVec 32 := Scf.iv c0_i32_539 c1_i32_541 k0_t4
  let c512_i32 : BitVec 32 := 512#32
  let v1552 : BitVec 32 := Scalar.muli arg15 c512_i32
  let v1553 : Index := Scalar.indexCast v1552
  let c0_2351 : Index := 0#32
  ![v1553.toNat, 0]
def k0_off8 (k0_t4 : Fin k0_t4_loop.trips) : Fin 2 → Nat :=
  let c0_i32_539 : BitVec 32 := 0#32
  let c1_i32_541 : BitVec 32 := 1#32
  let arg15 : BitVec 32 := Scf.iv c0_i32_539 c1_i32_541 k0_t4
  let c512_i32 : BitVec 32 := 512#32
  let v1552 : BitVec 32 := Scalar.muli arg15 c512_i32
  let v1562 : Index := Scalar.indexCast v1552
  let c0_2356 : Index := 0#32
  ![v1562.toNat, 0]
def k0_dev25 (d0 : Dev nD) : Nat :=
  let c0_i32_637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_636 : BitVec 32 := 1#32
  let v435 : BitVec 32 := Scalar.muli v5 c1_i32_636
  let v436 : BitVec 32 := Scalar.addi c0_i32_637 v435
  v436.toNat
def k0_dev26 (d0 : Dev nD) : Nat :=
  let c0_i32_640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_639 : BitVec 32 := 1#32
  let v437 : BitVec 32 := Scalar.muli v7 c1_i32_639
  let v438 : BitVec 32 := Scalar.addi c0_i32_640 v437
  v438.toNat
def k0_dev27 (d0 : Dev nD) : Nat :=
  let c0_i32_652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_651 : BitVec 32 := 1#32
  let v439 : BitVec 32 := Scalar.muli v7 c1_i32_651
  let v440 : BitVec 32 := Scalar.addi c0_i32_652 v439
  v440.toNat
def k0_dev28 (d0 : Dev nD) : Nat :=
  let c0_i32_664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_663 : BitVec 32 := 1#32
  let v449 : BitVec 32 := Scalar.muli v5 c1_i32_663
  let v450 : BitVec 32 := Scalar.addi c0_i32_664 v449
  v450.toNat
def k0_dev29 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_675 : BitVec 32 := 1#32
  let v459 : BitVec 32 := Scalar.muli v7 c1_i32_675
  let v460 : BitVec 32 := Scalar.addi c0_i32_676 v459
  v460.toNat
def k0_dev30 (d0 : Dev nD) : Nat :=
  let c0_i32_688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_687 : BitVec 32 := 1#32
  let v469 : BitVec 32 := Scalar.muli v5 c1_i32_687
  let v470 : BitVec 32 := Scalar.addi c0_i32_688 v469
  v470.toNat
@[reducible] def k0_t5_loop : Scf.Loop 32 :=
  let c0_i32_694 : BitVec 32 := 0#32
  let c8_i32_695 : BitVec 32 := 8#32
  let v479 : BitVec 32 := Scalar.addi c0_i32_694 c8_i32_695
  let c1_i32_696 : BitVec 32 := 1#32
  ⟨c0_i32_694, v479, c1_i32_696⟩
def k0_off9 (k0_t5 : Fin k0_t5_loop.trips) : Fin 2 → Nat :=
  let c0_i32_694 : BitVec 32 := 0#32
  let c1_i32_696 : BitVec 32 := 1#32
  let arg15 : BitVec 32 := Scf.iv c0_i32_694 c1_i32_696 k0_t5
  let c512_i32 : BitVec 32 := 512#32
  let v1552 : BitVec 32 := Scalar.muli arg15 c512_i32
  let v1553 : Index := Scalar.indexCast v1552
  let c0_2351 : Index := 0#32
  ![v1553.toNat, 0]
def k0_off10 (k0_t5 : Fin k0_t5_loop.trips) : Fin 2 → Nat :=
  let c0_i32_694 : BitVec 32 := 0#32
  let c1_i32_696 : BitVec 32 := 1#32
  let arg15 : BitVec 32 := Scf.iv c0_i32_694 c1_i32_696 k0_t5
  let c512_i32 : BitVec 32 := 512#32
  let v1552 : BitVec 32 := Scalar.muli arg15 c512_i32
  let v1562 : Index := Scalar.indexCast v1552
  let c0_2356 : Index := 0#32
  ![v1562.toNat, 0]
def k0_dev31 (d0 : Dev nD) : Nat :=
  let c0_i32_792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_791 : BitVec 32 := 1#32
  let v536 : BitVec 32 := Scalar.muli v5 c1_i32_791
  let v537 : BitVec 32 := Scalar.addi c0_i32_792 v536
  v537.toNat
def k0_dev32 (d0 : Dev nD) : Nat :=
  let c0_i32_795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_794 : BitVec 32 := 1#32
  let v538 : BitVec 32 := Scalar.muli v7 c1_i32_794
  let v539 : BitVec 32 := Scalar.addi c0_i32_795 v538
  v539.toNat
def k0_dev33 (d0 : Dev nD) : Nat :=
  let c0_i32_807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_806 : BitVec 32 := 1#32
  let v540 : BitVec 32 := Scalar.muli v7 c1_i32_806
  let v541 : BitVec 32 := Scalar.addi c0_i32_807 v540
  v541.toNat
def k0_dev34 (d0 : Dev nD) : Nat :=
  let c0_i32_819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_818 : BitVec 32 := 1#32
  let v550 : BitVec 32 := Scalar.muli v5 c1_i32_818
  let v551 : BitVec 32 := Scalar.addi c0_i32_819 v550
  v551.toNat
def k0_dev35 (d0 : Dev nD) : Nat :=
  let c0_i32_831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_830 : BitVec 32 := 1#32
  let v560 : BitVec 32 := Scalar.muli v7 c1_i32_830
  let v561 : BitVec 32 := Scalar.addi c0_i32_831 v560
  v561.toNat
def k0_dev36 (d0 : Dev nD) : Nat :=
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_842 : BitVec 32 := 1#32
  let v570 : BitVec 32 := Scalar.muli v5 c1_i32_842
  let v571 : BitVec 32 := Scalar.addi c0_i32_843 v570
  v571.toNat
@[reducible] def k0_t6_loop : Scf.Loop 32 :=
  let c0_i32_849 : BitVec 32 := 0#32
  let c8_i32_850 : BitVec 32 := 8#32
  let v580 : BitVec 32 := Scalar.addi c0_i32_849 c8_i32_850
  let c1_i32_851 : BitVec 32 := 1#32
  ⟨c0_i32_849, v580, c1_i32_851⟩
def k0_off11 (k0_t6 : Fin k0_t6_loop.trips) : Fin 2 → Nat :=
  let c0_i32_849 : BitVec 32 := 0#32
  let c1_i32_851 : BitVec 32 := 1#32
  let arg15 : BitVec 32 := Scf.iv c0_i32_849 c1_i32_851 k0_t6
  let c512_i32 : BitVec 32 := 512#32
  let v1552 : BitVec 32 := Scalar.muli arg15 c512_i32
  let v1553 : Index := Scalar.indexCast v1552
  let c0_2351 : Index := 0#32
  ![v1553.toNat, 0]
def k0_off12 (k0_t6 : Fin k0_t6_loop.trips) : Fin 2 → Nat :=
  let c0_i32_849 : BitVec 32 := 0#32
  let c1_i32_851 : BitVec 32 := 1#32
  let arg15 : BitVec 32 := Scf.iv c0_i32_849 c1_i32_851 k0_t6
  let c512_i32 : BitVec 32 := 512#32
  let v1552 : BitVec 32 := Scalar.muli arg15 c512_i32
  let v1562 : Index := Scalar.indexCast v1552
  let c0_2356 : Index := 0#32
  ![v1562.toNat, 0]
def k0_dev37 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_946 : BitVec 32 := 1#32
  let v637 : BitVec 32 := Scalar.muli v5 c1_i32_946
  let v638 : BitVec 32 := Scalar.addi c0_i32_947 v637
  v638.toNat
def k0_dev38 (d0 : Dev nD) : Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_949 : BitVec 32 := 1#32
  let v639 : BitVec 32 := Scalar.muli v7 c1_i32_949
  let v640 : BitVec 32 := Scalar.addi c0_i32_950 v639
  v640.toNat
def k0_dev39 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_961 : BitVec 32 := 1#32
  let v641 : BitVec 32 := Scalar.muli v7 c1_i32_961
  let v642 : BitVec 32 := Scalar.addi c0_i32_962 v641
  v642.toNat
def k0_dev40 (d0 : Dev nD) : Nat :=
  let c0_i32_974 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_973 : BitVec 32 := 1#32
  let v651 : BitVec 32 := Scalar.muli v5 c1_i32_973
  let v652 : BitVec 32 := Scalar.addi c0_i32_974 v651
  v652.toNat
def k0_dev41 (d0 : Dev nD) : Nat :=
  let c0_i32_986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_985 : BitVec 32 := 1#32
  let v661 : BitVec 32 := Scalar.muli v7 c1_i32_985
  let v662 : BitVec 32 := Scalar.addi c0_i32_986 v661
  v662.toNat
def k0_dev42 (d0 : Dev nD) : Nat :=
  let c0_i32_998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_997 : BitVec 32 := 1#32
  let v671 : BitVec 32 := Scalar.muli v5 c1_i32_997
  let v672 : BitVec 32 := Scalar.addi c0_i32_998 v671
  v672.toNat
@[reducible] def k0_t7_loop : Scf.Loop 32 :=
  let c0_i32_1004 : BitVec 32 := 0#32
  let c8_i32_1005 : BitVec 32 := 8#32
  let v681 : BitVec 32 := Scalar.addi c0_i32_1004 c8_i32_1005
  let c1_i32_1006 : BitVec 32 := 1#32
  ⟨c0_i32_1004, v681, c1_i32_1006⟩
def k0_off13 (k0_t7 : Fin k0_t7_loop.trips) : Fin 2 → Nat :=
  let c0_i32_1004 : BitVec 32 := 0#32
  let c1_i32_1006 : BitVec 32 := 1#32
  let arg15 : BitVec 32 := Scf.iv c0_i32_1004 c1_i32_1006 k0_t7
  let c512_i32 : BitVec 32 := 512#32
  let v1552 : BitVec 32 := Scalar.muli arg15 c512_i32
  let v1553 : Index := Scalar.indexCast v1552
  let c0_2351 : Index := 0#32
  ![v1553.toNat, 0]
def k0_off14 (k0_t7 : Fin k0_t7_loop.trips) : Fin 2 → Nat :=
  let c0_i32_1004 : BitVec 32 := 0#32
  let c1_i32_1006 : BitVec 32 := 1#32
  let arg15 : BitVec 32 := Scf.iv c0_i32_1004 c1_i32_1006 k0_t7
  let c512_i32 : BitVec 32 := 512#32
  let v1552 : BitVec 32 := Scalar.muli arg15 c512_i32
  let v1562 : Index := Scalar.indexCast v1552
  let c0_2356 : Index := 0#32
  ![v1562.toNat, 0]
def k0_dev43 (d0 : Dev nD) : Nat :=
  let c0_i32_1102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1101 : BitVec 32 := 1#32
  let v738 : BitVec 32 := Scalar.muli v5 c1_i32_1101
  let v739 : BitVec 32 := Scalar.addi c0_i32_1102 v738
  v739.toNat
def k0_dev44 (d0 : Dev nD) : Nat :=
  let c0_i32_1105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1104 : BitVec 32 := 1#32
  let v740 : BitVec 32 := Scalar.muli v7 c1_i32_1104
  let v741 : BitVec 32 := Scalar.addi c0_i32_1105 v740
  v741.toNat
def k0_dev45 (d0 : Dev nD) : Nat :=
  let c0_i32_1117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1116 : BitVec 32 := 1#32
  let v742 : BitVec 32 := Scalar.muli v7 c1_i32_1116
  let v743 : BitVec 32 := Scalar.addi c0_i32_1117 v742
  v743.toNat
def k0_dev46 (d0 : Dev nD) : Nat :=
  let c0_i32_1129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1128 : BitVec 32 := 1#32
  let v752 : BitVec 32 := Scalar.muli v5 c1_i32_1128
  let v753 : BitVec 32 := Scalar.addi c0_i32_1129 v752
  v753.toNat
def k0_dev47 (d0 : Dev nD) : Nat :=
  let c0_i32_1141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1140 : BitVec 32 := 1#32
  let v762 : BitVec 32 := Scalar.muli v7 c1_i32_1140
  let v763 : BitVec 32 := Scalar.addi c0_i32_1141 v762
  v763.toNat
def k0_dev48 (d0 : Dev nD) : Nat :=
  let c0_i32_1153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1152 : BitVec 32 := 1#32
  let v772 : BitVec 32 := Scalar.muli v5 c1_i32_1152
  let v773 : BitVec 32 := Scalar.addi c0_i32_1153 v772
  v773.toNat
@[reducible] def k0_t8_loop : Scf.Loop 32 :=
  let c0_i32_1159 : BitVec 32 := 0#32
  let c8_i32_1160 : BitVec 32 := 8#32
  let v782 : BitVec 32 := Scalar.addi c0_i32_1159 c8_i32_1160
  let c1_i32_1161 : BitVec 32 := 1#32
  ⟨c0_i32_1159, v782, c1_i32_1161⟩
def k0_off15 (k0_t8 : Fin k0_t8_loop.trips) : Fin 2 → Nat :=
  let c0_i32_1159 : BitVec 32 := 0#32
  let c1_i32_1161 : BitVec 32 := 1#32
  let arg15 : BitVec 32 := Scf.iv c0_i32_1159 c1_i32_1161 k0_t8
  let c512_i32 : BitVec 32 := 512#32
  let v1552 : BitVec 32 := Scalar.muli arg15 c512_i32
  let v1553 : Index := Scalar.indexCast v1552
  let c0_2351 : Index := 0#32
  ![v1553.toNat, 0]
def k0_off16 (k0_t8 : Fin k0_t8_loop.trips) : Fin 2 → Nat :=
  let c0_i32_1159 : BitVec 32 := 0#32
  let c1_i32_1161 : BitVec 32 := 1#32
  let arg15 : BitVec 32 := Scf.iv c0_i32_1159 c1_i32_1161 k0_t8
  let c512_i32 : BitVec 32 := 512#32
  let v1552 : BitVec 32 := Scalar.muli arg15 c512_i32
  let v1562 : Index := Scalar.indexCast v1552
  let c0_2356 : Index := 0#32
  ![v1562.toNat, 0]
def k0_dev49 (d0 : Dev nD) : Nat :=
  let c0_i32_1257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1256 : BitVec 32 := 1#32
  let v839 : BitVec 32 := Scalar.muli v5 c1_i32_1256
  let v840 : BitVec 32 := Scalar.addi c0_i32_1257 v839
  v840.toNat
def k0_dev50 (d0 : Dev nD) : Nat :=
  let c0_i32_1260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1259 : BitVec 32 := 1#32
  let v841 : BitVec 32 := Scalar.muli v7 c1_i32_1259
  let v842 : BitVec 32 := Scalar.addi c0_i32_1260 v841
  v842.toNat
def k0_dev51 (d0 : Dev nD) : Nat :=
  let c0_i32_1272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1271 : BitVec 32 := 1#32
  let v843 : BitVec 32 := Scalar.muli v7 c1_i32_1271
  let v844 : BitVec 32 := Scalar.addi c0_i32_1272 v843
  v844.toNat
def k0_dev52 (d0 : Dev nD) : Nat :=
  let c0_i32_1284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1283 : BitVec 32 := 1#32
  let v853 : BitVec 32 := Scalar.muli v5 c1_i32_1283
  let v854 : BitVec 32 := Scalar.addi c0_i32_1284 v853
  v854.toNat
def k0_dev53 (d0 : Dev nD) : Nat :=
  let c0_i32_1296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1295 : BitVec 32 := 1#32
  let v863 : BitVec 32 := Scalar.muli v7 c1_i32_1295
  let v864 : BitVec 32 := Scalar.addi c0_i32_1296 v863
  v864.toNat
def k0_dev54 (d0 : Dev nD) : Nat :=
  let c0_i32_1308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1307 : BitVec 32 := 1#32
  let v873 : BitVec 32 := Scalar.muli v5 c1_i32_1307
  let v874 : BitVec 32 := Scalar.addi c0_i32_1308 v873
  v874.toNat
@[reducible] def k0_t9_loop : Scf.Loop 32 :=
  let c0_i32_1314 : BitVec 32 := 0#32
  let c8_i32_1315 : BitVec 32 := 8#32
  let v883 : BitVec 32 := Scalar.addi c0_i32_1314 c8_i32_1315
  let c1_i32_1316 : BitVec 32 := 1#32
  ⟨c0_i32_1314, v883, c1_i32_1316⟩
def k0_off17 (k0_t9 : Fin k0_t9_loop.trips) : Fin 2 → Nat :=
  let c0_i32_1314 : BitVec 32 := 0#32
  let c1_i32_1316 : BitVec 32 := 1#32
  let arg15 : BitVec 32 := Scf.iv c0_i32_1314 c1_i32_1316 k0_t9
  let c512_i32 : BitVec 32 := 512#32
  let v1552 : BitVec 32 := Scalar.muli arg15 c512_i32
  let v1553 : Index := Scalar.indexCast v1552
  let c0_2351 : Index := 0#32
  ![v1553.toNat, 0]
def k0_off18 (k0_t9 : Fin k0_t9_loop.trips) : Fin 2 → Nat :=
  let c0_i32_1314 : BitVec 32 := 0#32
  let c1_i32_1316 : BitVec 32 := 1#32
  let arg15 : BitVec 32 := Scf.iv c0_i32_1314 c1_i32_1316 k0_t9
  let c512_i32 : BitVec 32 := 512#32
  let v1552 : BitVec 32 := Scalar.muli arg15 c512_i32
  let v1562 : Index := Scalar.indexCast v1552
  let c0_2356 : Index := 0#32
  ![v1562.toNat, 0]
def k0_dev55 (d0 : Dev nD) : Nat :=
  let c0_i32_1412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1411 : BitVec 32 := 1#32
  let v940 : BitVec 32 := Scalar.muli v5 c1_i32_1411
  let v941 : BitVec 32 := Scalar.addi c0_i32_1412 v940
  v941.toNat
def k0_dev56 (d0 : Dev nD) : Nat :=
  let c0_i32_1415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1414 : BitVec 32 := 1#32
  let v942 : BitVec 32 := Scalar.muli v7 c1_i32_1414
  let v943 : BitVec 32 := Scalar.addi c0_i32_1415 v942
  v943.toNat
def k0_dev57 (d0 : Dev nD) : Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1426 : BitVec 32 := 1#32
  let v944 : BitVec 32 := Scalar.muli v7 c1_i32_1426
  let v945 : BitVec 32 := Scalar.addi c0_i32_1427 v944
  v945.toNat
def k0_dev58 (d0 : Dev nD) : Nat :=
  let c0_i32_1439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1438 : BitVec 32 := 1#32
  let v954 : BitVec 32 := Scalar.muli v5 c1_i32_1438
  let v955 : BitVec 32 := Scalar.addi c0_i32_1439 v954
  v955.toNat
def k0_dev59 (d0 : Dev nD) : Nat :=
  let c0_i32_1451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1450 : BitVec 32 := 1#32
  let v964 : BitVec 32 := Scalar.muli v7 c1_i32_1450
  let v965 : BitVec 32 := Scalar.addi c0_i32_1451 v964
  v965.toNat
def k0_dev60 (d0 : Dev nD) : Nat :=
  let c0_i32_1463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1462 : BitVec 32 := 1#32
  let v974 : BitVec 32 := Scalar.muli v5 c1_i32_1462
  let v975 : BitVec 32 := Scalar.addi c0_i32_1463 v974
  v975.toNat
@[reducible] def k0_t10_loop : Scf.Loop 32 :=
  let c0_i32_1469 : BitVec 32 := 0#32
  let c8_i32_1470 : BitVec 32 := 8#32
  let v984 : BitVec 32 := Scalar.addi c0_i32_1469 c8_i32_1470
  let c1_i32_1471 : BitVec 32 := 1#32
  ⟨c0_i32_1469, v984, c1_i32_1471⟩
def k0_off19 (k0_t10 : Fin k0_t10_loop.trips) : Fin 2 → Nat :=
  let c0_i32_1469 : BitVec 32 := 0#32
  let c1_i32_1471 : BitVec 32 := 1#32
  let arg15 : BitVec 32 := Scf.iv c0_i32_1469 c1_i32_1471 k0_t10
  let c512_i32 : BitVec 32 := 512#32
  let v1552 : BitVec 32 := Scalar.muli arg15 c512_i32
  let v1553 : Index := Scalar.indexCast v1552
  let c0_2351 : Index := 0#32
  ![v1553.toNat, 0]
def k0_off20 (k0_t10 : Fin k0_t10_loop.trips) : Fin 2 → Nat :=
  let c0_i32_1469 : BitVec 32 := 0#32
  let c1_i32_1471 : BitVec 32 := 1#32
  let arg15 : BitVec 32 := Scf.iv c0_i32_1469 c1_i32_1471 k0_t10
  let c512_i32 : BitVec 32 := 512#32
  let v1552 : BitVec 32 := Scalar.muli arg15 c512_i32
  let v1562 : Index := Scalar.indexCast v1552
  let c0_2356 : Index := 0#32
  ![v1562.toNat, 0]
def k0_dev61 (d0 : Dev nD) : Nat :=
  let c0_i32_1567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1566 : BitVec 32 := 1#32
  let v1041 : BitVec 32 := Scalar.muli v5 c1_i32_1566
  let v1042 : BitVec 32 := Scalar.addi c0_i32_1567 v1041
  v1042.toNat
def k0_dev62 (d0 : Dev nD) : Nat :=
  let c0_i32_1570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1569 : BitVec 32 := 1#32
  let v1043 : BitVec 32 := Scalar.muli v7 c1_i32_1569
  let v1044 : BitVec 32 := Scalar.addi c0_i32_1570 v1043
  v1044.toNat
def k0_dev63 (d0 : Dev nD) : Nat :=
  let c0_i32_1582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1581 : BitVec 32 := 1#32
  let v1045 : BitVec 32 := Scalar.muli v7 c1_i32_1581
  let v1046 : BitVec 32 := Scalar.addi c0_i32_1582 v1045
  v1046.toNat
def k0_dev64 (d0 : Dev nD) : Nat :=
  let c0_i32_1594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1593 : BitVec 32 := 1#32
  let v1055 : BitVec 32 := Scalar.muli v5 c1_i32_1593
  let v1056 : BitVec 32 := Scalar.addi c0_i32_1594 v1055
  v1056.toNat
def k0_dev65 (d0 : Dev nD) : Nat :=
  let c0_i32_1606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1605 : BitVec 32 := 1#32
  let v1065 : BitVec 32 := Scalar.muli v7 c1_i32_1605
  let v1066 : BitVec 32 := Scalar.addi c0_i32_1606 v1065
  v1066.toNat
def k0_dev66 (d0 : Dev nD) : Nat :=
  let c0_i32_1618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1617 : BitVec 32 := 1#32
  let v1075 : BitVec 32 := Scalar.muli v5 c1_i32_1617
  let v1076 : BitVec 32 := Scalar.addi c0_i32_1618 v1075
  v1076.toNat
@[reducible] def k0_t11_loop : Scf.Loop 32 :=
  let c0_i32_1624 : BitVec 32 := 0#32
  let c8_i32_1625 : BitVec 32 := 8#32
  let v1085 : BitVec 32 := Scalar.addi c0_i32_1624 c8_i32_1625
  let c1_i32_1626 : BitVec 32 := 1#32
  ⟨c0_i32_1624, v1085, c1_i32_1626⟩
def k0_off21 (k0_t11 : Fin k0_t11_loop.trips) : Fin 2 → Nat :=
  let c0_i32_1624 : BitVec 32 := 0#32
  let c1_i32_1626 : BitVec 32 := 1#32
  let arg15 : BitVec 32 := Scf.iv c0_i32_1624 c1_i32_1626 k0_t11
  let c512_i32 : BitVec 32 := 512#32
  let v1552 : BitVec 32 := Scalar.muli arg15 c512_i32
  let v1553 : Index := Scalar.indexCast v1552
  let c0_2351 : Index := 0#32
  ![v1553.toNat, 0]
def k0_off22 (k0_t11 : Fin k0_t11_loop.trips) : Fin 2 → Nat :=
  let c0_i32_1624 : BitVec 32 := 0#32
  let c1_i32_1626 : BitVec 32 := 1#32
  let arg15 : BitVec 32 := Scf.iv c0_i32_1624 c1_i32_1626 k0_t11
  let c512_i32 : BitVec 32 := 512#32
  let v1552 : BitVec 32 := Scalar.muli arg15 c512_i32
  let v1562 : Index := Scalar.indexCast v1552
  let c0_2356 : Index := 0#32
  ![v1562.toNat, 0]
def k0_dev67 (d0 : Dev nD) : Nat :=
  let c0_i32_1722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1721 : BitVec 32 := 1#32
  let v1142 : BitVec 32 := Scalar.muli v5 c1_i32_1721
  let v1143 : BitVec 32 := Scalar.addi c0_i32_1722 v1142
  v1143.toNat
def k0_dev68 (d0 : Dev nD) : Nat :=
  let c0_i32_1725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1724 : BitVec 32 := 1#32
  let v1144 : BitVec 32 := Scalar.muli v7 c1_i32_1724
  let v1145 : BitVec 32 := Scalar.addi c0_i32_1725 v1144
  v1145.toNat
def k0_dev69 (d0 : Dev nD) : Nat :=
  let c0_i32_1737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1736 : BitVec 32 := 1#32
  let v1146 : BitVec 32 := Scalar.muli v7 c1_i32_1736
  let v1147 : BitVec 32 := Scalar.addi c0_i32_1737 v1146
  v1147.toNat
def k0_dev70 (d0 : Dev nD) : Nat :=
  let c0_i32_1749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1748 : BitVec 32 := 1#32
  let v1156 : BitVec 32 := Scalar.muli v5 c1_i32_1748
  let v1157 : BitVec 32 := Scalar.addi c0_i32_1749 v1156
  v1157.toNat
def k0_dev71 (d0 : Dev nD) : Nat :=
  let c0_i32_1761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1760 : BitVec 32 := 1#32
  let v1166 : BitVec 32 := Scalar.muli v7 c1_i32_1760
  let v1167 : BitVec 32 := Scalar.addi c0_i32_1761 v1166
  v1167.toNat
def k0_dev72 (d0 : Dev nD) : Nat :=
  let c0_i32_1773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1772 : BitVec 32 := 1#32
  let v1176 : BitVec 32 := Scalar.muli v5 c1_i32_1772
  let v1177 : BitVec 32 := Scalar.addi c0_i32_1773 v1176
  v1177.toNat
@[reducible] def k0_t12_loop : Scf.Loop 32 :=
  let c0_i32_1779 : BitVec 32 := 0#32
  let c8_i32_1780 : BitVec 32 := 8#32
  let v1186 : BitVec 32 := Scalar.addi c0_i32_1779 c8_i32_1780
  let c1_i32_1781 : BitVec 32 := 1#32
  ⟨c0_i32_1779, v1186, c1_i32_1781⟩
def k0_off23 (k0_t12 : Fin k0_t12_loop.trips) : Fin 2 → Nat :=
  let c0_i32_1779 : BitVec 32 := 0#32
  let c1_i32_1781 : BitVec 32 := 1#32
  let arg15 : BitVec 32 := Scf.iv c0_i32_1779 c1_i32_1781 k0_t12
  let c512_i32 : BitVec 32 := 512#32
  let v1552 : BitVec 32 := Scalar.muli arg15 c512_i32
  let v1553 : Index := Scalar.indexCast v1552
  let c0_2351 : Index := 0#32
  ![v1553.toNat, 0]
def k0_off24 (k0_t12 : Fin k0_t12_loop.trips) : Fin 2 → Nat :=
  let c0_i32_1779 : BitVec 32 := 0#32
  let c1_i32_1781 : BitVec 32 := 1#32
  let arg15 : BitVec 32 := Scf.iv c0_i32_1779 c1_i32_1781 k0_t12
  let c512_i32 : BitVec 32 := 512#32
  let v1552 : BitVec 32 := Scalar.muli arg15 c512_i32
  let v1562 : Index := Scalar.indexCast v1552
  let c0_2356 : Index := 0#32
  ![v1562.toNat, 0]
def k0_dev73 (d0 : Dev nD) : Nat :=
  let c0_i32_1877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1876 : BitVec 32 := 1#32
  let v1243 : BitVec 32 := Scalar.muli v5 c1_i32_1876
  let v1244 : BitVec 32 := Scalar.addi c0_i32_1877 v1243
  v1244.toNat
def k0_dev74 (d0 : Dev nD) : Nat :=
  let c0_i32_1880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1879 : BitVec 32 := 1#32
  let v1245 : BitVec 32 := Scalar.muli v7 c1_i32_1879
  let v1246 : BitVec 32 := Scalar.addi c0_i32_1880 v1245
  v1246.toNat
def k0_dev75 (d0 : Dev nD) : Nat :=
  let c0_i32_1892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1891 : BitVec 32 := 1#32
  let v1247 : BitVec 32 := Scalar.muli v7 c1_i32_1891
  let v1248 : BitVec 32 := Scalar.addi c0_i32_1892 v1247
  v1248.toNat
def k0_dev76 (d0 : Dev nD) : Nat :=
  let c0_i32_1904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1903 : BitVec 32 := 1#32
  let v1257 : BitVec 32 := Scalar.muli v5 c1_i32_1903
  let v1258 : BitVec 32 := Scalar.addi c0_i32_1904 v1257
  v1258.toNat
def k0_dev77 (d0 : Dev nD) : Nat :=
  let c0_i32_1916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1915 : BitVec 32 := 1#32
  let v1267 : BitVec 32 := Scalar.muli v7 c1_i32_1915
  let v1268 : BitVec 32 := Scalar.addi c0_i32_1916 v1267
  v1268.toNat
def k0_dev78 (d0 : Dev nD) : Nat :=
  let c0_i32_1928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1927 : BitVec 32 := 1#32
  let v1277 : BitVec 32 := Scalar.muli v5 c1_i32_1927
  let v1278 : BitVec 32 := Scalar.addi c0_i32_1928 v1277
  v1278.toNat
@[reducible] def k0_t13_loop : Scf.Loop 32 :=
  let c0_i32_1934 : BitVec 32 := 0#32
  let c8_i32_1935 : BitVec 32 := 8#32
  let v1287 : BitVec 32 := Scalar.addi c0_i32_1934 c8_i32_1935
  let c1_i32_1936 : BitVec 32 := 1#32
  ⟨c0_i32_1934, v1287, c1_i32_1936⟩
def k0_off25 (k0_t13 : Fin k0_t13_loop.trips) : Fin 2 → Nat :=
  let c0_i32_1934 : BitVec 32 := 0#32
  let c1_i32_1936 : BitVec 32 := 1#32
  let arg15 : BitVec 32 := Scf.iv c0_i32_1934 c1_i32_1936 k0_t13
  let c512_i32 : BitVec 32 := 512#32
  let v1552 : BitVec 32 := Scalar.muli arg15 c512_i32
  let v1553 : Index := Scalar.indexCast v1552
  let c0_2351 : Index := 0#32
  ![v1553.toNat, 0]
def k0_off26 (k0_t13 : Fin k0_t13_loop.trips) : Fin 2 → Nat :=
  let c0_i32_1934 : BitVec 32 := 0#32
  let c1_i32_1936 : BitVec 32 := 1#32
  let arg15 : BitVec 32 := Scf.iv c0_i32_1934 c1_i32_1936 k0_t13
  let c512_i32 : BitVec 32 := 512#32
  let v1552 : BitVec 32 := Scalar.muli arg15 c512_i32
  let v1562 : Index := Scalar.indexCast v1552
  let c0_2356 : Index := 0#32
  ![v1562.toNat, 0]
def k0_dev79 (d0 : Dev nD) : Nat :=
  let c0_i32_2032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2031 : BitVec 32 := 1#32
  let v1344 : BitVec 32 := Scalar.muli v5 c1_i32_2031
  let v1345 : BitVec 32 := Scalar.addi c0_i32_2032 v1344
  v1345.toNat
def k0_dev80 (d0 : Dev nD) : Nat :=
  let c0_i32_2035 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2034 : BitVec 32 := 1#32
  let v1346 : BitVec 32 := Scalar.muli v7 c1_i32_2034
  let v1347 : BitVec 32 := Scalar.addi c0_i32_2035 v1346
  v1347.toNat
def k0_dev81 (d0 : Dev nD) : Nat :=
  let c0_i32_2047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2046 : BitVec 32 := 1#32
  let v1348 : BitVec 32 := Scalar.muli v7 c1_i32_2046
  let v1349 : BitVec 32 := Scalar.addi c0_i32_2047 v1348
  v1349.toNat
def k0_dev82 (d0 : Dev nD) : Nat :=
  let c0_i32_2059 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2058 : BitVec 32 := 1#32
  let v1358 : BitVec 32 := Scalar.muli v5 c1_i32_2058
  let v1359 : BitVec 32 := Scalar.addi c0_i32_2059 v1358
  v1359.toNat
def k0_dev83 (d0 : Dev nD) : Nat :=
  let c0_i32_2071 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2070 : BitVec 32 := 1#32
  let v1368 : BitVec 32 := Scalar.muli v7 c1_i32_2070
  let v1369 : BitVec 32 := Scalar.addi c0_i32_2071 v1368
  v1369.toNat
def k0_dev84 (d0 : Dev nD) : Nat :=
  let c0_i32_2083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2082 : BitVec 32 := 1#32
  let v1378 : BitVec 32 := Scalar.muli v5 c1_i32_2082
  let v1379 : BitVec 32 := Scalar.addi c0_i32_2083 v1378
  v1379.toNat
@[reducible] def k0_t14_loop : Scf.Loop 32 :=
  let c0_i32_2089 : BitVec 32 := 0#32
  let c8_i32_2090 : BitVec 32 := 8#32
  let v1388 : BitVec 32 := Scalar.addi c0_i32_2089 c8_i32_2090
  let c1_i32_2091 : BitVec 32 := 1#32
  ⟨c0_i32_2089, v1388, c1_i32_2091⟩
def k0_off27 (k0_t14 : Fin k0_t14_loop.trips) : Fin 2 → Nat :=
  let c0_i32_2089 : BitVec 32 := 0#32
  let c1_i32_2091 : BitVec 32 := 1#32
  let arg15 : BitVec 32 := Scf.iv c0_i32_2089 c1_i32_2091 k0_t14
  let c512_i32 : BitVec 32 := 512#32
  let v1552 : BitVec 32 := Scalar.muli arg15 c512_i32
  let v1553 : Index := Scalar.indexCast v1552
  let c0_2351 : Index := 0#32
  ![v1553.toNat, 0]
def k0_off28 (k0_t14 : Fin k0_t14_loop.trips) : Fin 2 → Nat :=
  let c0_i32_2089 : BitVec 32 := 0#32
  let c1_i32_2091 : BitVec 32 := 1#32
  let arg15 : BitVec 32 := Scf.iv c0_i32_2089 c1_i32_2091 k0_t14
  let c512_i32 : BitVec 32 := 512#32
  let v1552 : BitVec 32 := Scalar.muli arg15 c512_i32
  let v1562 : Index := Scalar.indexCast v1552
  let c0_2356 : Index := 0#32
  ![v1562.toNat, 0]
def k0_dev85 (d0 : Dev nD) : Nat :=
  let c0_i32_2187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2186 : BitVec 32 := 1#32
  let v1445 : BitVec 32 := Scalar.muli v5 c1_i32_2186
  let v1446 : BitVec 32 := Scalar.addi c0_i32_2187 v1445
  v1446.toNat
def k0_dev86 (d0 : Dev nD) : Nat :=
  let c0_i32_2190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2189 : BitVec 32 := 1#32
  let v1447 : BitVec 32 := Scalar.muli v7 c1_i32_2189
  let v1448 : BitVec 32 := Scalar.addi c0_i32_2190 v1447
  v1448.toNat
def k0_dev87 (d0 : Dev nD) : Nat :=
  let c0_i32_2202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2201 : BitVec 32 := 1#32
  let v1449 : BitVec 32 := Scalar.muli v7 c1_i32_2201
  let v1450 : BitVec 32 := Scalar.addi c0_i32_2202 v1449
  v1450.toNat
def k0_dev88 (d0 : Dev nD) : Nat :=
  let c0_i32_2214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2213 : BitVec 32 := 1#32
  let v1459 : BitVec 32 := Scalar.muli v5 c1_i32_2213
  let v1460 : BitVec 32 := Scalar.addi c0_i32_2214 v1459
  v1460.toNat
def k0_dev89 (d0 : Dev nD) : Nat :=
  let c0_i32_2226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2225 : BitVec 32 := 1#32
  let v1469 : BitVec 32 := Scalar.muli v7 c1_i32_2225
  let v1470 : BitVec 32 := Scalar.addi c0_i32_2226 v1469
  v1470.toNat
def k0_dev90 (d0 : Dev nD) : Nat :=
  let c0_i32_2238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2237 : BitVec 32 := 1#32
  let v1479 : BitVec 32 := Scalar.muli v5 c1_i32_2237
  let v1480 : BitVec 32 := Scalar.addi c0_i32_2238 v1479
  v1480.toNat
@[reducible] def k0_t15_loop : Scf.Loop 32 :=
  let c0_i32_2244 : BitVec 32 := 0#32
  let c8_i32_2245 : BitVec 32 := 8#32
  let v1489 : BitVec 32 := Scalar.addi c0_i32_2244 c8_i32_2245
  let c1_i32_2246 : BitVec 32 := 1#32
  ⟨c0_i32_2244, v1489, c1_i32_2246⟩
def k0_off29 (k0_t15 : Fin k0_t15_loop.trips) : Fin 2 → Nat :=
  let c0_i32_2244 : BitVec 32 := 0#32
  let c1_i32_2246 : BitVec 32 := 1#32
  let arg15 : BitVec 32 := Scf.iv c0_i32_2244 c1_i32_2246 k0_t15
  let c512_i32 : BitVec 32 := 512#32
  let v1552 : BitVec 32 := Scalar.muli arg15 c512_i32
  let v1553 : Index := Scalar.indexCast v1552
  let c0_2351 : Index := 0#32
  ![v1553.toNat, 0]
def k0_off30 (k0_t15 : Fin k0_t15_loop.trips) : Fin 2 → Nat :=
  let c0_i32_2244 : BitVec 32 := 0#32
  let c1_i32_2246 : BitVec 32 := 1#32
  let arg15 : BitVec 32 := Scf.iv c0_i32_2244 c1_i32_2246 k0_t15
  let c512_i32 : BitVec 32 := 512#32
  let v1552 : BitVec 32 := Scalar.muli arg15 c512_i32
  let v1562 : Index := Scalar.indexCast v1552
  let c0_2356 : Index := 0#32
  ![v1562.toNat, 0]
@[reducible] def k0_t16_loop : Scf.Loop 32 :=
  let c0_i32_2341 : BitVec 32 := 0#32
  let c8_i32_2342 : BitVec 32 := 8#32
  let v1546 : BitVec 32 := Scalar.addi c0_i32_2341 c8_i32_2342
  let c1_i32_2343 : BitVec 32 := 1#32
  ⟨c0_i32_2341, v1546, c1_i32_2343⟩
def k0_off31 (k0_t16 : Fin k0_t16_loop.trips) : Fin 2 → Nat :=
  let c0_i32_2341 : BitVec 32 := 0#32
  let c1_i32_2343 : BitVec 32 := 1#32
  let arg15 : BitVec 32 := Scf.iv c0_i32_2341 c1_i32_2343 k0_t16
  let c512_i32 : BitVec 32 := 512#32
  let v1552 : BitVec 32 := Scalar.muli arg15 c512_i32
  let v1553 : Index := Scalar.indexCast v1552
  let c0_2351 : Index := 0#32
  ![v1553.toNat, 0]
def k0_off32 (k0_t16 : Fin k0_t16_loop.trips) : Fin 2 → Nat :=
  let c0_i32_2341 : BitVec 32 := 0#32
  let c1_i32_2343 : BitVec 32 := 1#32
  let arg15 : BitVec 32 := Scf.iv c0_i32_2341 c1_i32_2343 k0_t16
  let c512_i32 : BitVec 32 := 512#32
  let v1552 : BitVec 32 := Scalar.muli arg15 c512_i32
  let v1562 : Index := Scalar.indexCast v1552
  let c0_2356 : Index := 0#32
  ![v1562.toNat, 0]
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "s" => some (((Real.sqrt 512)⁻¹ : ℝ) : EReal)
  | _ => none
-- ==== ReferenceIdeal.lean ====
abbrev S65536x512 : Shape := ⟨2, ![65536, 512]⟩
abbrev S512x65536 : Shape := ⟨2, ![512, 65536]⟩
abbrev S65536x65536 : Shape := ⟨2, ![65536, 65536]⟩
abbrev S_ : Shape := ⟨0, ![]⟩
abbrev S65536 : Shape := ⟨1, ![65536]⟩
abbrev S65536x1 : Shape := ⟨2, ![65536, 1]⟩

abbrev nBuf : Space → Nat
  | .hbm => 24
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x512, .bf16⟩
  | .hbm, ⟨3, _⟩ => ⟨S65536x512, .f32⟩
  | .hbm, ⟨4, _⟩ => ⟨S65536x512, .f32⟩
  | .hbm, ⟨5, _⟩ => ⟨S65536x512, .f32⟩
  | .hbm, ⟨6, _⟩ => ⟨S512x65536, .f32⟩
  | .hbm, ⟨7, _⟩ => ⟨S65536x65536, .f32⟩
  | .hbm, ⟨8, _⟩ => ⟨S_, .f32⟩
  | .hbm, ⟨9, _⟩ => ⟨S_, .f32⟩
  | .hbm, ⟨10, _⟩ => ⟨S65536x65536, .f32⟩
  | .hbm, ⟨11, _⟩ => ⟨S65536x65536, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S65536x65536, .f32⟩
  | .hbm, ⟨16, _⟩ => ⟨S65536x65536, .f32⟩
  | .hbm, ⟨17, _⟩ => ⟨S65536x65536, .f32⟩
  | .hbm, ⟨18, _⟩ => ⟨S_, .f32⟩
  | .hbm, ⟨19, _⟩ => ⟨S65536, .f32⟩
  | .hbm, ⟨20, _⟩ => ⟨S65536x1, .f32⟩
  | .hbm, ⟨21, _⟩ => ⟨S65536x65536, .f32⟩
  | .hbm, ⟨22, _⟩ => ⟨S65536x65536, .f32⟩
  | .hbm, ⟨23, _⟩ => ⟨S65536x512, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.KI.Body.lean ====
/-
# The kernel body as a program over the hop number

The printed body lists fifteen transfer hops and sixteen block updates one after the other. Here it is one short
program: a prologue, fourteen rounds (a hop, then the hand-over of the buffers it freed), one more hop, one more block
update, the division. Everything a hop does is written once, for a slot, a direction and one of the two buffers.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Regions
public import Idealize.ShloMosaic.Lib.Tactic

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F] [Named F]

/-! ## Buffers, slots, halves, semaphores -/

/-- The staged blocks, the accumulator and the two running columns. -/
abbrev qM : Memref sig .tc .vmem S4096x512 .bf16 := Memref.whole cc0_stg0_0
abbrev kM : Memref sig .tc .vmem S4096x512 .bf16 := Memref.whole cc0_stg1_0
abbrev vM : Memref sig .tc .vmem S4096x512 .bf16 := Memref.whole cc0_stg2_0
abbrev oM : Memref sig .tc .vmem S4096x512 .f32 := Memref.whole cc0_stg3_0
abbrev accM : Memref sig .tc .vmem S4096x512 .f32 := Memref.whole cc0_scratch2
abbrev mM : Memref sig .tc .vmem S4096x1 .f32 := Memref.whole cc0_scratch3
abbrev lM : Memref sig .tc .vmem S4096x1 .f32 := Memref.whole cc0_scratch4

/-- The two-slot buffers: `0` holds keys, `1` holds values. -/
abbrev kvM : Fin 2 → Memref sig .tc .vmem S2x4096x512 .bf16
  | 0 => Memref.whole cc0_scratch0
  | 1 => Memref.whole cc0_scratch1

theorem kvM_whole : ∀ x : Fin 2, (kvM x).IsWhole
  | 0 => Memref.isWhole_whole _
  | 1 => Memref.isWhole_whole _

/-- The other slot. -/
abbrev oth : Fin 2 → Fin 2
  | 0 => 1
  | 1 => 0

theorem inb_half (s b : Fin 2) : ∀ a, (![s.val, 2048 * b.val, 0] : Fin 3 → ℕ) a + S1x2048x512.size a ≤ S2x4096x512.size a := by
  revert s b; decide
theorem inb_slot (s : Fin 2) : ∀ a, (![s.val, 0, 0] : Fin 3 → ℕ) a + S1x4096x512.size a ≤ S2x4096x512.size a := by
  revert s; decide
theorem inb_sem (s x : Fin 2) : ∀ a, (![s.val, x.val] : Fin 2 → ℕ) a + S1x1.size a ≤ S2x2.size a := by
  revert s x; decide

/-- Half `b` of slot `s` of buffer `x` (`b = 0`: the upper rows, which travel to the right neighbour; `b = 1`: the
    lower rows, which travel to the left one). -/
abbrev halfRect (s b : Fin 2) : Rect S2x4096x512 := Rect.unit (s := S2x4096x512) ![s.val, 2048 * b.val, 0] S1x2048x512.size (inb_half s b)
abbrev halfM (x s b : Fin 2) : Memref sig .tc .vmem S2048x512 .bf16 :=
  ((kvM x).slice (halfRect s b) (fun _ => rfl)).squeeze S2048x512 squeezes_S1x2048x512_S2048x512

/-- The whole of slot `s`, as the block update loads it. -/
abbrev slotRect (s : Fin 2) : Rect S2x4096x512 := Rect.unit (s := S2x4096x512) ![s.val, 0, 0] S1x4096x512.size (inb_slot s)

/-- The semaphores of direction `b`: sent, received, credit. -/
abbrev sendA : Fin 2 → DmaSems sig S2x2
  | 0 => cc0_scratch5
  | 1 => cc0_scratch7
abbrev recvA : Fin 2 → DmaSems sig S2x2
  | 0 => cc0_scratch6
  | 1 => cc0_scratch8
abbrev credA : Fin 2 → Sems sig S_
  | 0 => cc0_scratch9
  | 1 => cc0_scratch10
abbrev at2 (A : DmaSems sig S2x2) (s x : Fin 2) : DmaSem sig :=
  ((A.slice (Rect.unit (s := S2x2) ![s.val, x.val] S1x1.size (inb_sem s x))).squeeze S_ squeezes_S1x1_S_).sem

/-- The barrier semaphore. -/
abbrev barS : Sem sig := (SemArray.scalar (sig.barrier 0 rfl) : Sems sig S_).sem

/-- The neighbour half `b` travels to, as the kernel's words address it: right for `b = 0`, left for `b = 1`. -/
def dst (b : Fin 2) (d : Dev nD) : Dev nD := match b with
  | 0 => ⟨k0_dev2 d, k0_dev2_lt d⟩
  | 1 => ⟨k0_dev1 d, k0_dev1_lt d⟩

theorem half_words (s b : Fin 2) : (halfRect s b).WholeWords (EltTy.packing .bf16) := by
  match s, b with
  | 0, 0 => exact wordsbf16_S2x4096x512_S1x2048x512_0_0_0
  | 0, 1 => exact wordsbf16_S2x4096x512_S1x2048x512_0_2048_0
  | 1, 0 => exact wordsbf16_S2x4096x512_S1x2048x512_1_0_0
  | 1, 1 => exact wordsbf16_S2x4096x512_S1x2048x512_1_2048_0

theorem half_exact (x s b : Fin 2) : (halfM x s b).view.WordExact :=
  ((kvM_whole x).wordExact_slice rfl _ (half_words s b)).reshape _ _

/-! ## The program -/

/-- The programs of the kernel's core. -/
abbrev PG (F : FTy → Type) (α : Type) : Type 1 := Prog (TpuEff nD τ sig (Elt F) Λ₀ .tc) α

/-- Half `b` of buffer `x` sent from slot `s` to the neighbour's other slot. -/
def send (d : Dev nD) (s x b : Fin 2) : PG F PUnit :=
  Prog.lift (.enqueueDma (halfM x s b) (.remote (Dev.tc (dst b d)) (halfM x (oth s) b) (.dma (at2 (sendA b) s x)))
    (.dma (at2 (recvA b) (oth s) x)) (half_exact x s b) (half_exact x (oth s) b) ⟨⟨rfl, Or.inl rfl⟩, trivial⟩)

/-- The wait for that transfer to have left, -/
def waitSend (s x b : Fin 2) : PG F PUnit :=
  Prog.lift (.waitDma2 (at2 (sendA b) s x) (halfM x (oth s) b) (halfM x s b) (half_exact x (oth s) b) (half_exact x s b))
/-- and the wait for the neighbour's own to have landed. -/
def waitRecv (s x b : Fin 2) : PG F PUnit :=
  Prog.lift (.waitDma2 (at2 (recvA b) (oth s) x) (halfM x s b) (halfM x (oth s) b) (half_exact x s b) (half_exact x (oth s) b))

/-- The four transfers of a hop from slot `s`; -/
def sends (d : Dev nD) (s : Fin 2) : PG F PUnit := do
  send d s 0 0
  send d s 0 1
  send d s 1 0
  send d s 1 1
/-- and the waits that end it. -/
def waits (s : Fin 2) : PG F PUnit := do
  waitSend s 0 0
  waitRecv s 0 0
  waitSend s 0 1
  waitRecv s 0 1
  waitSend s 1 0
  waitRecv s 1 0
  waitSend s 1 1
  waitRecv s 1 1

/-- One trip of the block update against slot `s`: 512 query rows against the 4096 keys and values of the slot. -/
def trip (s : Fin 2) (t : Fin k0_t1_loop.trips) : PG F Unit := do
  let q ← Prog.lift (.load qM (Rect.unit (s := S4096x512) (k0_off1 t) S512x512.size (k0_off1_inb t)).toLoadRect (View.loadsAt_vmem h_S512x512))
  let k ← Prog.lift (.load (kvM 0) (slotRect s).toLoadRect (View.loadsAt_vmem h_S1x4096x512))
  let m ← Prog.lift (.load mM (Rect.unit (s := S4096x1) (k0_off2 t) S512x1.size (k0_off2_inb t)).toLoadRect (View.loadsAt_vmem h_S512x1))
  let l ← Prog.lift (.load lM (Rect.unit (s := S4096x1) (k0_off2 t) S512x1.size (k0_off2_inb t)).toLoadRect (View.loadsAt_vmem h_S512x1))
  let _ ← Prog.lift (.load lM (Rect.unit (s := S4096x1) (k0_off2 t) S512x1.size (k0_off2_inb t)).toLoadRect (View.loadsAt_vmem h_S512x1))
  Prog.lift (.store lM (Rect.unit (s := S4096x1) (k0_off2 t) S512x1.size (k0_off2_inb t)) (k0_pay8 q k m l) Finset.univ (View.stores_vmem_bits_univ h_S512x1 rfl) (.inl rfl))
  let a ← Prog.lift (.load accM (Rect.unit (s := S4096x512) (k0_off1 t) S512x512.size (k0_off1_inb t)).toLoadRect (View.loadsAt_vmem h_S512x512))
  let v ← Prog.lift (.load (kvM 1) (slotRect s).toLoadRect (View.loadsAt_vmem h_S1x4096x512))
  let _ ← Prog.lift (.load accM (Rect.unit (s := S4096x512) (k0_off1 t) S512x512.size (k0_off1_inb t)).toLoadRect (View.loadsAt_vmem h_S512x512))
  Prog.lift (.store accM (Rect.unit (s := S4096x512) (k0_off1 t) S512x512.size (k0_off1_inb t)) (k0_pay106 (k0_pay9 q k m a v)) Finset.univ (View.stores_vmem_bits_univ h_S512x512 rfl) (.inl rfl))
  let _ ← Prog.lift (.load mM (Rect.unit (s := S4096x1) (k0_off2 t) S512x1.size (k0_off2_inb t)).toLoadRect (View.loadsAt_vmem h_S512x1))
  Prog.lift (.store mM (Rect.unit (s := S4096x1) (k0_off2 t) S512x1.size (k0_off2_inb t)) (k0_pay107 (k0_pay5 q k m)) Finset.univ (View.stores_vmem_bits_univ h_S512x1 rfl) (.inl rfl))
  pure ⟨⟩

/-- The block update: eight trips. -/
def update (s : Fin 2) : PG F Unit := Scf.Loop.for k0_t1_loop k0_t1_ok ⟨⟩ (fun t _ => trip s t)

/-- One hop from slot `s`. -/
def hop (d : Dev nD) (s : Fin 2) : PG F PUnit := do
  sends d s
  update s
  waits s

/-- The hand-over after a hop: the freed halves of the slot are offered to the neighbours they come from, and theirs
    are taken. -/
def handover (d : Dev nD) : PG F PUnit := do
  semSignalWord (dst 1 d) (credA 0).sem 1#32
  semSignalWord (dst 0 d) (credA 1).sem 1#32
  semWaitWord (credA 0).sem 1#32
  semWaitWord (credA 1).sem 1#32

/-- The slot hop `h` sends from. -/
abbrev slotOf (h : ℕ) : Fin 2 := ⟨h % 2, Nat.mod_lt _ (by decide)⟩

/-- The first `n` rounds. -/
def rounds (d : Dev nD) : ℕ → PG F PUnit
  | 0 => pure ⟨⟩
  | n + 1 => do
    rounds d n
    hop d (slotOf n)
    handover d

/-- What precedes them: the handshake, the own block copied into slot `0`, the running maximum, sum and accumulator. -/
def prologue (d : Dev nD) : PG F PUnit := do
  semSignalWord (dst 1 d) barS 1#32
  semSignalWord (dst 0 d) barS 1#32
  semWaitWord barS 2#32
  let k ← Prog.lift (.load kM (Rect.unit (s := S4096x512) ![0, 0] S4096x512.size inb_S4096x512_S4096x512_0_0).toLoadRect (View.loadsAt_vmem h_S4096x512))
  let _ ← Prog.lift (.load (kvM 0) (slotRect 0).toLoadRect (View.loadsAt_vmem h_S1x4096x512))
  Prog.lift (.store (kvM 0) (slotRect 0) (k0_pay100 k) Finset.univ (View.stores_vmem h_S1x4096x512 ((kvM_whole 0).storeExact_slice rfl _ packedbf16_S2x4096x512_S1x4096x512_0_0_0) (fun _ => rfl)) (.inl rfl))
  let v ← Prog.lift (.load vM (Rect.unit (s := S4096x512) ![0, 0] S4096x512.size inb_S4096x512_S4096x512_0_0).toLoadRect (View.loadsAt_vmem h_S4096x512))
  let _ ← Prog.lift (.load (kvM 1) (slotRect 0).toLoadRect (View.loadsAt_vmem h_S1x4096x512))
  Prog.lift (.store (kvM 1) (slotRect 0) (k0_pay101 v) Finset.univ (View.stores_vmem h_S1x4096x512 ((kvM_whole 1).storeExact_slice rfl _ packedbf16_S2x4096x512_S1x4096x512_0_0_0) (fun _ => rfl)) (.inl rfl))
  let _ ← Prog.lift (.load mM (Rect.unit (s := S4096x1) ![0, 0] S4096x1.size inb_S4096x1_S4096x1_0_0).toLoadRect (View.loadsAt_vmem h_S4096x1))
  Prog.lift (.store mM (Rect.unit (s := S4096x1) ![0, 0] S4096x1.size inb_S4096x1_S4096x1_0_0) (k0_pay103 (k0_pay102 (F := F))) Finset.univ (View.stores_vmem_bits_univ h_S4096x1 rfl) (.inl rfl))
  let _ ← Prog.lift (.load lM (Rect.unit (s := S4096x1) ![0, 0] S4096x1.size inb_S4096x1_S4096x1_0_0).toLoadRect (View.loadsAt_vmem h_S4096x1))
  Prog.lift (.store lM (Rect.unit (s := S4096x1) ![0, 0] S4096x1.size inb_S4096x1_S4096x1_0_0) (k0_pay104 (F := F)) Finset.univ (View.stores_vmem_bits_univ h_S4096x1 rfl) (.inl rfl))
  let _ ← Prog.lift (.load accM (Rect.unit (s := S4096x512) ![0, 0] S4096x512.size inb_S4096x512_S4096x512_0_0).toLoadRect (View.loadsAt_vmem h_S4096x512))
  Prog.lift (.store accM (Rect.unit (s := S4096x512) ![0, 0] S4096x512.size inb_S4096x512_S4096x512_0_0) (k0_pay105 (F := F)) Finset.univ (View.stores_vmem_bits_univ h_S4096x512 rfl) (.inl rfl))

/-- What follows the last update: the accumulator divided by the row sums. -/
def epilogue : PG F PUnit := do
  let a ← Prog.lift (.load accM (Rect.unit (s := S4096x512) ![0, 0] S4096x512.size inb_S4096x512_S4096x512_0_0).toLoadRect (View.loadsAt_vmem h_S4096x512))
  let l ← Prog.lift (.load lM (Rect.unit (s := S4096x1) ![0, 0] S4096x1.size inb_S4096x1_S4096x1_0_0).toLoadRect (View.loadsAt_vmem h_S4096x1))
  let _ ← Prog.lift (.load oM (Rect.unit (s := S4096x512) ![0, 0] S4096x512.size inb_S4096x512_S4096x512_0_0).toLoadRect (View.loadsAt_vmem h_S4096x512))
  Prog.lift (.store oM (Rect.unit (s := S4096x512) ![0, 0] S4096x512.size inb_S4096x512_S4096x512_0_0) (k0_pay3 a l) Finset.univ (View.stores_vmem_bits_univ h_S4096x512 rfl) (.inl rfl))
  pure ⟨⟩

/-- The kernel's program. -/
def ringProg : PG F PUnit := do
  let d ← Prog.lift .deviceId
  prologue d
  rounds d 14
  hop d 0
  update 1
  epilogue

/-- The printed body, on the buffers and semaphores the launch gives it. -/
abbrev printed : PG F PUnit :=
  cc0_body qM (Memref.isWhole_whole _) kM (Memref.isWhole_whole _) vM (Memref.isWhole_whole _) oM (Memref.isWhole_whole _)
    (Memref.whole cc0_scratch0) (Memref.isWhole_whole _) (Memref.whole cc0_scratch1) (Memref.isWhole_whole _)
    accM (Memref.isWhole_whole _) mM (Memref.isWhole_whole _) lM (Memref.isWhole_whole _)
    cc0_scratch5 cc0_scratch6 cc0_scratch7 cc0_scratch8 cc0_scratch9 cc0_scratch10

set_option maxRecDepth 100000 in
set_option maxHeartbeats 4000000 in
/-- The printed body is that program: its parts unfolded and re-associated, then compared operation by operation. -/
theorem printed_eq : printed (F := F) = ringProg := by
  unfold printed
  simp only [cc0_body_eq_skeleton, cc0_body_skel,
    k0_part17_eq_skeleton, k0_part17_skel, k0_part18_eq_skeleton, k0_part18_skel, k0_part19_eq_skeleton, k0_part19_skel, k0_part20_eq_skeleton,
    k0_part20_skel, k0_part21_eq_skeleton, k0_part21_skel, k0_part22_eq_skeleton, k0_part22_skel, k0_part23_eq_skeleton, k0_part23_skel,
    k0_part24_eq_skeleton, k0_part24_skel, k0_part25_eq_skeleton, k0_part25_skel, k0_part26_eq_skeleton, k0_part26_skel, k0_part27_eq_skeleton,
    k0_part27_skel, k0_part28_eq_skeleton, k0_part28_skel, k0_part29_eq_skeleton, k0_part29_skel, k0_part30_eq_skeleton, k0_part30_skel,
    k0_part31_eq_skeleton, k0_part31_skel, k0_part32_eq_skeleton, k0_part32_skel, k0_part33_eq_skeleton, k0_part33_skel, k0_part34_eq_skeleton,
    k0_part34_skel, k0_part35_eq_skeleton, k0_part35_skel, k0_part36_eq_skeleton, k0_part36_skel, k0_part37_eq_skeleton, k0_part37_skel,
    k0_part38_eq_skeleton, k0_part38_skel, k0_part39_eq_skeleton, k0_part39_skel, k0_part40_eq_skeleton, k0_part40_skel, k0_part41_eq_skeleton,
    k0_part41_skel, k0_part42_eq_skeleton, k0_part42_skel, k0_part43_eq_skeleton, k0_part43_skel, k0_part44_eq_skeleton, k0_part44_skel,
    k0_part45_eq_skeleton, k0_part45_skel, k0_part46_eq_skeleton, k0_part46_skel, k0_part47_eq_skeleton, k0_part47_skel, k0_part48_eq_skeleton,
    k0_part48_skel, k0_part49_eq_skeleton, k0_part49_skel, k0_part50_eq_skeleton, k0_part50_skel, k0_part51_eq_skeleton, k0_part51_skel,
    k0_part52_eq_skeleton, k0_part52_skel, k0_part53_eq_skeleton, k0_part53_skel, k0_part54_eq_skeleton, k0_part54_skel, k0_part55_eq_skeleton,
    k0_part55_skel, k0_part56_eq_skeleton, k0_part56_skel, k0_part57_eq_skeleton, k0_part57_skel, k0_part58_eq_skeleton, k0_part58_skel,
    k0_part59_eq_skeleton, k0_part59_skel, k0_part60_eq_skeleton, k0_part60_skel, k0_part61_eq_skeleton, k0_part61_skel, k0_part62_eq_skeleton,
    k0_part62_skel, k0_part63_eq_skeleton, k0_part63_skel, k0_part64_eq_skeleton, k0_part64_skel, k0_part65_eq_skeleton, k0_part65_skel,
    k0_part66_eq_skeleton, k0_part66_skel, k0_part67_eq_skeleton, k0_part67_skel, k0_part68_eq_skeleton, k0_part68_skel, k0_part69_eq_skeleton,
    k0_part69_skel, k0_part70_eq_skeleton, k0_part70_skel, k0_part71_eq_skeleton, k0_part71_skel, k0_part72_eq_skeleton, k0_part72_skel,
    k0_part73_eq_skeleton, k0_part73_skel, k0_part74_eq_skeleton, k0_part74_skel, k0_part75_eq_skeleton, k0_part75_skel, k0_part76_eq_skeleton,
    k0_part76_skel, k0_part77_eq_skeleton, k0_part77_skel, k0_part78_eq_skeleton, k0_part78_skel, k0_part79_eq_skeleton, k0_part79_skel,
    k0_part80_eq_skeleton, k0_part80_skel, k0_part81_eq_skeleton, k0_part81_skel, k0_part82_eq_skeleton, k0_part82_skel, k0_part83_eq_skeleton,
    k0_part83_skel, k0_part84_eq_skeleton, k0_part84_skel, k0_part85_eq_skeleton, k0_part85_skel, k0_part86_eq_skeleton, k0_part86_skel,
    ringProg, rounds, hop, sends, waits, prologue, handover, epilogue, update, bind_assoc, pure_bind]
  chain_rfl

end Cert.KernelIdeal.Ring
end
-- ==== Proof.KI.Protocol.lean ====
/-
# The transfer protocol

Device `c` sends, at hop `n`, the upper half of what it holds to its right neighbour and the lower half to its left one,
each of keys and values. Its cells: the barrier semaphore, for each slot, buffer and direction a send and a receive
semaphore, and one credit semaphore per direction. A transfer needs the neighbour's free half and the fact that the
neighbour stands at the right round of its receive semaphore; both come with the barrier (hop `0`) or with the credit
waited for at the end of the hop before. The fact a credit signal needs travels back with the transfer it answers.
-/
module

public import proofs.«01_k».proof.Proof.KI.Body
public import Idealize.ShloMosaic.Lib.Rounds

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra -/

abbrev UB : Type := URounds (GSem nD τ sig) (Fin 2)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The ring -/

theorem oth_oth (b : Fin 2) : oth (oth b) = b := by revert b; decide
theorem oth_val (b : Fin 2) : (oth b).val = 1 - b.val := by revert b; decide
theorem oth_slotOf (n : ℕ) : oth (slotOf n) = slotOf (n + 1) := Fin.ext (by rw [oth_val]; simp only [slotOf]; omega)
theorem slotOf_succ (n : ℕ) : slotOf (n + 1) = oth (slotOf n) := (oth_slotOf n).symm

/-- Going one way and back. -/
theorem dst_dst (b : Fin 2) (c : Dev nD) : dst (oth b) (dst b c) = c := by
  have h := c.isLt
  match b with
  | 0 => refine Fin.ext ?_; show k0_dev1 (dst 0 c) = c.val; rw [k0_dev1_eq]; show (k0_dev2 c + 15) % 16 = c.val; rw [k0_dev2_eq]
         have : nD = 16 := rfl
         omega
  | 1 => refine Fin.ext ?_; show k0_dev2 (dst 1 c) = c.val; rw [k0_dev2_eq]; show (k0_dev1 c + 1) % 16 = c.val; rw [k0_dev1_eq]
         have : nD = 16 := rfl
         omega
theorem dst_oth_dst (b : Fin 2) (c : Dev nD) : dst b (dst (oth b) c) = c := by
  have := dst_dst (oth b) c; rwa [oth_oth] at this

/-- Where the half `b` that device `c` holds at hop `n` comes from: `n` steps against the direction it travels. -/
def src (b : Fin 2) (c : Dev nD) : ℕ → Dev nD
  | 0 => c
  | n + 1 => src b (dst (oth b) c) n

theorem src_dst (b : Fin 2) (c : Dev nD) (n : ℕ) : src b (dst b c) (n + 1) = src b c n := by
  show src b (dst (oth b) (dst b c)) n = _; rw [dst_dst]

/-! ## Cells -/

/-- A device's cells: the barrier; sent and received, for slot `s`, buffer `x`, direction `b`; the credit of direction `b`. -/
inductive CK
  | bar
  | snd (s x b : Fin 2)
  | rcv (s x b : Fin 2)
  | crd (b : Fin 2)
  deriving DecidableEq

abbrev csem : CK → SemLoc sig
  | .bar => .reg barS
  | .snd s x b => .dma (at2 (sendA b) s x)
  | .rcv s x b => .dma (at2 (recvA b) s x)
  | .crd b => .reg (credA b).sem

/-- The cells one after the other. -/
def ckAll : List CK := .bar :: .crd 0 :: .crd 1 ::
  ([(0, 0), (0, 1), (1, 0), (1, 1)] : List (Fin 2 × Fin 2)).flatMap fun xb => [.snd 0 xb.1 xb.2, .snd 1 xb.1 xb.2, .rcv 0 xb.1 xb.2, .rcv 1 xb.1 xb.2]

theorem mem_ckAll (k : CK) : k ∈ ckAll := by
  match k with
  | .bar => decide
  | .snd s x b => revert s x b; decide
  | .rcv s x b => revert s x b; decide
  | .crd b => revert b; decide
theorem nodup_ckAll : ckAll.Nodup := by decide
instance : Fintype CK := ⟨⟨ckAll, nodup_ckAll⟩, mem_ckAll⟩

theorem csem_inj : Function.Injective csem := by
  have h : ∀ k ∈ ckAll, ∀ k' ∈ ckAll, csem k = csem k' → k = k' := by decide
  exact fun k k' => h k (mem_ckAll k) k' (mem_ckAll k')

/-- Which of a device's cells a semaphore is. -/
def kindOf : SemLoc sig → Option CK := Function.partialInv csem
theorem kindOf_csem (k : CK) : kindOf (csem k) = some k := Function.partialInv_left csem_inj k

abbrev cel (c : Dev nD) (k : CK) : GSem nD τ sig := ((c : Thread nD τ), csem k)

theorem cel_inj {c c' : Dev nD} {k k' : CK} (h : cel c k = cel c' k') : c = c' ∧ k = k' :=
  ⟨congrArg (fun g : GSem nD τ sig => g.1.1) h, csem_inj (congrArg Prod.snd h)⟩

/-- What a transfer adds to its semaphores. -/
def N : ℕ := (halfM 0 0 0).view.dmaCredit
theorem N_pos : 0 < N := View.dmaCredit_pos _ (by decide)
theorem credit_half (x s b : Fin 2) : (halfM x s b).view.dmaCredit = N := by
  match x with
  | 0 => rfl
  | 1 => rfl

/-! ## Contents -/

/-- Every device's blocks, `A 0` the keys and `A 1` the values. -/
abbrev Blocks (F : FTy → Type) : Type := Fin 2 → Dev nD → S4096x512.Idx → Elt F .bf16

theorem inb_rows (b : Fin 2) : ∀ a, (![2048 * b.val, 0] : Fin 2 → ℕ) a + S2048x512.size a ≤ S4096x512.size a := by
  revert b; decide

abbrev rowsRect (b : Fin 2) : Rect S4096x512 := Rect.unit (s := S4096x512) ![2048 * b.val, 0] S2048x512.size (inb_rows b)

/-- Half `b` of a block. -/
def half (b : Fin 2) (X : S4096x512.Idx → Elt F .bf16) : S2048x512.Idx → Elt F .bf16 := fun i => X ((rowsRect b).emb i)

/-- What device `c` holds of buffer `x`, half `b`, at hop `n`. -/
def chunk (A : Blocks F) (x b : Fin 2) (c : Dev nD) (n : ℕ) : S2048x512.Idx → Elt F .bf16 := half b (A x (src b c n))

theorem chunk_dst (A : Blocks F) (x b : Fin 2) (c : Dev nD) (n : ℕ) : chunk A x b (dst b c) (n + 1) = chunk A x b c n := by
  unfold chunk; rw [src_dst]

variable (A : Blocks F)

/-- Half `b` of slot `s` of buffer `x` on device `c`, at share `q`, holding `X`. -/
abbrev holds (c : Dev nD) (x s b : Fin 2) (q : PosShare TreeShare) (X : S2048x512.Idx → Elt F .bf16) : sProp 𝕄 :=
  ownsTc (τ := τ) (Ix := ℕ) (Name := ℕ) (U := UU) (Lvl := ℕ) c (halfM x s b) q X

/-! ## The schedule -/

/-- What a transfer of buffer `x` in direction `b` at hop `n` needs of the neighbour: the free half it lands in, and that
    the neighbour stands at that hop's round of the receive cell. -/
def hole (c : Dev nD) (x b : Fin 2) (n : ℕ) : sProp 𝕄 :=
  iprop((∃ X, holds (F := F) (dst b c) x (oth (slotOf n)) b fullShare X) ∗ reached ER (cel (dst b c) (.rcv (oth (slotOf n)) x b)) (n / 2))

/-- Both buffers' in direction `b`. -/
def offer (c : Dev nD) (b : Fin 2) (n : ℕ) : sProp 𝕄 := iprop(hole c 0 b n ∗ hole (F := F) c 1 b n)

instance hole_storable (c : Dev nD) (x b : Fin 2) (n : ℕ) : BI.Storable (upEmb : UEmb _ 𝕄) (hole (F := F) c x b n) := by
  unfold hole; infer_instance
instance offer_storable (c : Dev nD) (b : Fin 2) (n : ℕ) : BI.Storable (upEmb : UEmb _ 𝕄) (offer (F := F) c b n) := by
  unfold offer; infer_instance

/-- The rounds a cell goes through. -/
def last : CK → ℕ
  | .bar => 1
  | .snd s _ _ => 8 - s.val
  | .rcv s _ _ => 7 + s.val
  | .crd _ => 14

def dutiesK (k : CK) (r : ℕ) : Finset (Fin 2) := if r < last k then (if k = .bar then Finset.univ else {0}) else ∅

def amountK : CK → ℕ
  | .bar => 1
  | .snd _ _ _ => N
  | .rcv _ _ _ => N
  | .crd _ => 1

/-- A landed half at hop `n`, with the fact that lets its receiver answer with a credit. -/
def landed (c : Dev nD) (x s b : Fin 2) (n : ℕ) : sProp 𝕄 :=
  iprop(holds c x s b fullShare (chunk A x b c (n + 1)) ∗ reached ER (cel (dst (oth b) c) (.crd b)) n)

/-- What the cells hand over: the barrier and the credits the neighbours' free halves, a send cell the share lent to the
    transfer, a receive cell the landed half. -/
def payK (c : Dev nD) (k : CK) (r : ℕ) (d : Fin 2) : sProp 𝕄 := match k with
  | .bar => offer c d 0
  | .snd s x b => holds c x s b fullShare.left (chunk A x b c (2 * r + s.val))
  | .rcv s x b => landed A c x s b (2 * r + (1 - s.val))
  | .crd b => offer c b (r + 1)

instance payK_storable (c : Dev nD) (k : CK) (r : ℕ) (d : Fin 2) : BI.Storable (upEmb : UEmb _ 𝕄) (payK A c k r d) := by
  match k with
  | .bar => exact offer_storable c d 0
  | .snd s x b => show BI.Storable (upEmb : UEmb _ 𝕄) (holds c x s b fullShare.left (chunk A x b c (2 * r + s.val))); infer_instance
  | .rcv s x b => show BI.Storable (upEmb : UEmb _ 𝕄) (landed A c x s b (2 * r + (1 - s.val))); unfold landed; infer_instance
  | .crd b => exact offer_storable c b (r + 1)

def Rd : Rounds.Schedule (GSem nD τ sig) (Fin 2) 𝕄 where
  duties g r := if g.1.2 = .tc then (match kindOf g.2 with | some k => dutiesK k r | none => ∅) else ∅
  unitless _ := False
  amount g _ _ := match kindOf g.2 with | some k => amountK k | none => 1
  payload g r d := match kindOf g.2 with | some k => payK A g.1.1 k r d | none => iprop(emp)
  amount_pos g _ _ _ := by
    cases kindOf g.2 with
    | none => exact Nat.one_pos
    | some k => cases k <;> first | exact Nat.one_pos | exact N_pos

instance Rd_storable (g : GSem nD τ sig) (r : ℕ) (d : Fin 2) : BI.Storable (upEmb : UEmb _ 𝕄) ((Rd A).payload g r d) := by
  show BI.Storable (upEmb : UEmb _ 𝕄) (match kindOf g.2 with | some k => payK A g.1.1 k r d | none => iprop(emp))
  cases kindOf g.2 <;> infer_instance

section Sched
variable (c : Dev nD) (k : CK) (r : ℕ) (d : Fin 2)

theorem duties_cel : (Rd A).duties (cel c k) r = dutiesK k r := by
  simp only [Rd, kindOf_csem, if_true]
theorem amount_cel : (Rd A).amount (cel c k) r d = amountK k := by simp only [Rd, kindOf_csem]
theorem payload_cel : (Rd A).payload (cel c k) r d = payK A c k r d := by simp only [Rd, kindOf_csem]

theorem duties_past (h : last k ≤ r) : (Rd A).duties (cel c k) r = ∅ := by
  rw [duties_cel]; exact if_neg (by omega)
theorem duties_one (hk : k ≠ .bar) (h : r < last k) : (Rd A).duties (cel c k) r = {0} := by
  rw [duties_cel]; unfold dutiesK; rw [if_pos h, if_neg hk]
theorem duties_bar : (Rd A).duties (cel c .bar) 0 = Finset.univ := by
  rw [duties_cel]; unfold dutiesK; rw [if_pos (by decide), if_pos rfl]
theorem mem_duties (hk : k ≠ .bar) (h : r < last k) : 0 ∈ (Rd A).duties (cel c k) r := by
  rw [duties_one A c k r hk h]; exact Finset.mem_singleton_self _

theorem expect_one (hk : k ≠ .bar) (h : r < last k) : (Rd A).expect (cel c k) r = amountK k := by
  unfold Schedule.expect Schedule.amountOf; rw [duties_one A c k r hk h, Finset.sum_singleton, amount_cel]
theorem expect_bar : (Rd A).expect (cel c .bar) 0 = 2 := by
  unfold Schedule.expect Schedule.amountOf
  rw [duties_bar, Finset.sum_congr rfl fun d _ => amount_cel A c .bar 0 d, Finset.sum_const]; rfl

theorem rest_one (hk : k ≠ .bar) (h : r < last k) :
    bigSep ((Rd A).duties (cel c k) r \ ∅) (fun d => (Rd A).payload (cel c k) r d) = payK A c k r 0 := by
  rw [Finset.sdiff_empty, duties_one A c k r hk h, bigSep_singleton, payload_cel]
theorem rest_bar :
    bigSep ((Rd A).duties (cel c .bar) 0 \ ∅) (fun d => (Rd A).payload (cel c .bar) 0 d) = iprop(offer (F := F) c 0 0 ∗ offer c 1 0) := by
  rw [Finset.sdiff_empty, duties_bar, bigSep_univ_eq_bigSepL [(0 : Fin 2), 1] (by decide) (by decide), bigSepL_cons_cons, bigSepL_singleton,
    payload_cel, payload_cel]
  rfl
end Sched

/-! ## What a device owes, and the levels -/

/-- The transfer of buffer `x` in direction `b` at hop `n`, owed to the neighbour's receive cell. -/
def oweHop (c : Dev nD) (n : ℕ) (x b : Fin 2) : CellTallies nD τ sig ℕ := tallyAt (cel (dst b c) (.rcv (oth (slotOf n)) x b)) n N
/-- The credit of direction `b` after hop `n`, owed to the neighbour the half came from. -/
def oweCrd (c : Dev nD) (n : ℕ) (b : Fin 2) : CellTallies nD τ sig ℕ := tallyAt (cel (dst (oth b) c) (.crd b)) n 1
/-- The credits after hop `n`: none after the last. -/
def oweHand (c : Dev nD) (n : ℕ) : CellTallies nD τ sig ℕ := if n < 14 then oweCrd c n 1 + oweCrd c n 0 else 0

/-- All of hop `n`, in the order opposite to the program's. -/
def oweAt (c : Dev nD) (n : ℕ) : CellTallies nD τ sig ℕ :=
  oweHand c n + oweHop c n 1 1 + oweHop c n 1 0 + oweHop c n 0 1 + oweHop c n 0 0

/-- Everything from hop `n` on. -/
def oweFrom (c : Dev nD) (n : ℕ) : CellTallies nD τ sig ℕ := ∑ j ∈ Finset.Ico n 15, oweAt c j

theorem oweFrom_step (c : Dev nD) {n : ℕ} (h : n < 15) :
    oweFrom c n = oweFrom c (n + 1) + oweHand c n + oweHop c n 1 1 + oweHop c n 1 0 + oweHop c n 0 1 + oweHop c n 0 0 := by
  unfold oweFrom; rw [Finset.sum_eq_sum_Ico_succ_bot h, add_comm]; unfold oweAt; simp only [add_assoc]
theorem oweFrom_end (c : Dev nD) : oweFrom c 15 = 0 := by unfold oweFrom; rw [Finset.Ico_self, Finset.sum_empty]

/-- The barrier unit for the neighbour in direction `b`. -/
def oweBar (c : Dev nD) (b : Fin 2) : CellTallies nD τ sig ℕ := tallyAt (cel (dst b c) .bar) 0 1

/-- What device `c` owes at launch. -/
def O₀ (c : Dev nD) : CellTallies nD τ sig ℕ := oweFrom c 0 + oweBar c 0 + oweBar c 1

def L (g : GSem nD τ sig) : Finset ℕ := if g.1.2 = .tc then Finset.range 16 else ∅

def lvK : CK → ℕ → ℕ
  | .bar, _ => 1
  | .snd _ _ _, _ => 0
  | .rcv _ _ _, i => 3 * i + 3
  | .crd _, i => 3 * i + 4
/-- Send and staging cells lowest, then the barrier, then hop by hop the receive cells and the credits. -/
def lv (g : GSem nD τ sig) (i : ℕ) : ℕ := match kindOf g.2 with | some k => lvK k i | none => 0

theorem L_of_ne (g : GSem nD τ sig) (h : g.1.2 ≠ .tc) : L g = ∅ := if_neg h
theorem L_tc (c : Dev nD) (sm : SemLoc sig) : L ((c : Thread nD τ), sm) = Finset.range 16 := if_pos rfl
theorem lv_cel (c : Dev nD) (k : CK) (i : ℕ) : lv (cel c k) i = lvK k i := by simp only [lv, kindOf_csem]

/-- An obligation all of whose cells are a device's, at indices the levels name and at levels of at least `b`. -/
def Above (b : ℕ) (O : CellTallies nD τ sig ℕ) : Prop := ∀ g i, 0 < O g i → i ∈ L g ∧ b ≤ lv g i

theorem Above.mono {b b' : ℕ} {O : CellTallies nD τ sig ℕ} (h : Above b O) (hb : b' ≤ b) : Above b' O :=
  fun g i hg => ⟨(h g i hg).1, hb.trans (h g i hg).2⟩
theorem Above.zero (b : ℕ) : Above b 0 := fun g i hg => absurd hg (Nat.lt_irrefl 0)
theorem Above.add {b : ℕ} {O O' : CellTallies nD τ sig ℕ} (h : Above b O) (h' : Above b O') : Above b (O + O') := fun g i hg => by
  rw [Pi.add_apply, Finsupp.add_apply] at hg
  rcases Nat.add_pos_iff_pos_or_pos.mp hg with hg | hg
  · exact h g i hg
  · exact h' g i hg
theorem Above.tally {b : ℕ} (c : Dev nD) (k : CK) (i n : ℕ) (hi : i < 16) (hb : b ≤ lvK k i) : Above b (tallyAt (cel c k) i n) := fun g j hg => by
  rw [tallyAt_apply] at hg
  by_cases h : g = cel c k ∧ j = i
  · rw [h.1, h.2, L_tc, lv_cel]; exact ⟨Finset.mem_range.mpr hi, hb⟩
  · rw [if_neg h] at hg; exact absurd hg (Nat.lt_irrefl 0)
theorem Above.sum {b : ℕ} {α : Type} (s : Finset α) (f : α → CellTallies nD τ sig ℕ) (h : ∀ a ∈ s, Above b (f a)) : Above b (∑ a ∈ s, f a) := by
  classical
  induction s using Finset.induction_on with
  | empty => exact Above.zero b
  | insert a s ha ih =>
    rw [Finset.sum_insert ha]
    exact (h a (Finset.mem_insert_self _ _)).add (ih fun a' h' => h a' (Finset.mem_insert_of_mem h'))

theorem above_hop (c : Dev nD) {n : ℕ} (h : n < 15) (x b : Fin 2) : Above (3 * n + 3) (oweHop c n x b) :=
  Above.tally _ _ _ _ (by omega) (le_refl _)
theorem above_hand (c : Dev nD) (n : ℕ) : Above (3 * n + 4) (oweHand c n) := by
  unfold oweHand; split
  · exact (Above.tally _ _ _ _ (by omega) (le_refl _)).add (Above.tally _ _ _ _ (by omega) (le_refl _))
  · exact Above.zero _
theorem above_at (c : Dev nD) {n : ℕ} (h : n < 15) : Above (3 * n + 3) (oweAt c n) :=
  (((((above_hand c n).mono (by omega)).add (above_hop c h 1 1)).add (above_hop c h 1 0)).add (above_hop c h 0 1)).add (above_hop c h 0 0)
theorem above_from (c : Dev nD) (n : ℕ) : Above (3 * n + 3) (oweFrom c n) :=
  Above.sum _ _ fun j hj => (above_at c (Finset.mem_Ico.mp hj).2).mono (by have := (Finset.mem_Ico.mp hj).1; omega)
theorem above_start (c : Dev nD) : Above 1 (O₀ c) :=
  (((above_from c 0).mono (by omega)).add (Above.tally _ _ _ _ (by omega) (le_refl 1))).add (Above.tally _ _ _ _ (by omega) (le_refl 1))

/-- The level facts. -/
def levs : sProp 𝕄 := levAts L lv
instance levs_persistent : BI.Persistent (levs (F := F)) := by unfold levs; infer_instance

/-- A device may wait on a cell below everything it owes. -/
theorem mayWait (c : Dev nD) (sm : SemLoc sig) (i : ℕ) (hi : i < 16) {b : ℕ} (O : CellTallies nD τ sig ℕ) (hO : Above b O)
    (hb : lv ((c : Thread nD τ), sm) i < b) : levs (F := F) ⊢ MayWait (c : Thread nD τ) sm i O :=
  Pipeline.mayWait_of_levAts (by rw [L_tc]; exact Finset.mem_range.mpr hi) fun g j hg => ⟨(hO g j hg).1, lt_of_lt_of_le hb (hO g j hg).2⟩

end Cert.KernelIdeal.Ring
end
-- ==== Proof.KI.Hop.lean ====
/-
# The transfers, the waits and the credits, each once

For a symbolic device, hop, buffer and direction: what each operation of the ring needs and gives.
-/
module

public import proofs.«01_k».proof.Proof.KI.Protocol
public import Idealize.ShloMosaic.Lib.MemrefSat

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

abbrev 𝒱₀ : Variants := Variants.none

/-- Running a program of device `c`'s core. -/
abbrev run (c : Dev nD) {α : Type} (p : PG F α) (Q : α → sProp 𝕄) : sProp 𝕄 :=
  wp frame (wpE (defs₀ (F := F)) 𝒱₀ (c : Thread nD τ) none) Set.univ p Q

variable (A : Blocks F) (K : Dev nD × CK → ℕ)

/-! ## What every device knows -/

/-- Every cell's invariant, the levels, and that every cell has reached round `0`. -/
def ctx : sProp 𝕄 :=
  iprop((bigSep Finset.univ fun ck : Dev nD × CK => cellInv ER (Rd A) (K ck) (cel ck.1 ck.2)) ∗ levs
    ∗ bigSep Finset.univ fun ck : Dev nD × CK => reached ER (cel ck.1 ck.2) 0)

instance ctx_persistent : BI.Persistent (ctx A K) := by unfold ctx; infer_instance

theorem ctx_inv (c : Dev nD) (k : CK) : ctx A K ⊢ cellInv ER (Rd A) (K (c, k)) (cel c k) := by
  unfold ctx
  exact (show _ ⊢ bigSep Finset.univ fun ck : Dev nD × CK => cellInv ER (Rd A) (K ck) (cel ck.1 ck.2) from by iintro ⟨H, -⟩; iexact H).trans
    (bigSep_elim (Φ := fun ck : Dev nD × CK => cellInv ER (Rd A) (K ck) (cel ck.1 ck.2)) (Finset.mem_univ (c, k)))
theorem ctx_lev : ctx A K ⊢ levs := by
  unfold ctx; iintro ⟨-, H, -⟩; iexact H
set_option maxRecDepth 10000 in
/-- A device may wait on a cell below everything it owes. -/
theorem ctx_mayWait (c : Dev nD) (k : CK) {ix : ℕ} (hi : ix < 16) (O : CellTallies nD τ sig ℕ) {lb : ℕ} (hO : Above lb O) (hlb : lvK k ix < lb) :
    ctx A K ⊢ (MayWait (c : Thread nD τ) (csem k) ix O : sProp 𝕄) := by
  have h := mayWait (F := F) c (csem k) ix hi O hO (by rw [show lv ((c : Thread nD τ), csem k) ix = lvK k ix from lv_cel c k ix]; exact hlb)
  exact (ctx_lev A K).trans h
theorem ctx_reached (c : Dev nD) (k : CK) : ctx A K ⊢ (reached ER (cel c k) 0 : sProp 𝕄) := by
  unfold ctx
  exact (show _ ⊢ bigSep Finset.univ fun ck : Dev nD × CK => (reached ER (cel ck.1 ck.2) 0 : sProp 𝕄) from by iintro ⟨-, -, H⟩; iexact H).trans
    (bigSep_elim (Φ := fun ck : Dev nD × CK => (reached ER (cel ck.1 ck.2) 0 : sProp 𝕄)) (Finset.mem_univ (c, k)))

/-- What device `c` still owes, whatever waits it has made. -/
def owed (c : Dev nD) (O : CellTallies nD τ sig ℕ) : sProp 𝕄 := iprop(∃ W, owes (c : Thread nD τ) O W)

/-! ## Arithmetic of hops and rounds -/

theorem hop_snd (n : ℕ) : 2 * (n / 2) + (slotOf n).val = n := by simp only [slotOf]; omega
theorem hop_rcv (n : ℕ) : 2 * (n / 2) + (1 - (oth (slotOf n)).val) = n := by rw [oth_val]; simp only [slotOf]; omega
theorem snd_lt {n : ℕ} (h : n < 15) (x b : Fin 2) : n / 2 < last (.snd (slotOf n) x b) := by simp only [last, slotOf]; omega
theorem rcv_lt {n : ℕ} (h : n < 15) (x b : Fin 2) : n / 2 < last (.rcv (oth (slotOf n)) x b) := by
  show n / 2 < 7 + (oth (slotOf n)).val; rw [oth_val]; simp only [slotOf]; omega

theorem pay_snd (c : Dev nD) (n : ℕ) (x b : Fin 2) :
    payK A c (.snd (slotOf n) x b) (n / 2) 0 = holds c x (slotOf n) b fullShare.left (chunk A x b c n) := by
  show holds c x (slotOf n) b fullShare.left (chunk A x b c (2 * (n / 2) + (slotOf n).val)) = _; rw [hop_snd]
theorem pay_rcv (c : Dev nD) (n : ℕ) (x b : Fin 2) :
    payK A c (.rcv (oth (slotOf n)) x b) (n / 2) 0 = landed A c x (oth (slotOf n)) b n := by
  show landed A c x (oth (slotOf n)) b (2 * (n / 2) + (1 - (oth (slotOf n)).val)) = _; rw [hop_rcv]

theorem pay_crd (c : Dev nD) (b : Fin 2) (r : ℕ) (d : Fin 2) : payK A c (.crd b) r d = offer c b (r + 1) := rfl
theorem pay_bar (c : Dev nD) (r : ℕ) (d : Fin 2) : payK A c .bar r d = offer c d 0 := rfl

/-- A half at contents that read `X` holds `X`. -/
theorem holds_intro (c : Dev nD) (x s b : Fin 2) (q : PosShare TreeShare) (X : S2048x512.Idx → Elt F .bf16)
    (f : Buf (Elt F) ((halfM x s b).view.loc (c : Thread nD τ))) (h : (halfM x s b).view.read (Elt F) f = X) :
    ((halfM x s b).view.loc (c : Thread nD τ) ↦[(halfM x s b).view.set]{q} f : sProp 𝕄) ⊢ holds c x s b q X := by
  rw [← h]; exact owns_intro (c : Thread nD τ) (halfM x s b) q f

/-! ## A transfer -/

/-- Half `b` of buffer `x` sent at hop `n`: half the share of it is lent, the neighbour's free half goes to the receive cell
    with what the receiver needs for its credit. -/
theorem run_send (c : Dev nD) {n : ℕ} (hn : n < 15) (x b : Fin 2) (O : CellTallies nD τ sig ℕ) (Q : PUnit → sProp 𝕄) :
    iprop(ctx A K ∗ holds c x (slotOf n) b fullShare.left (chunk A x b c n) ∗ hole c x b n ∗ reached ER (cel c (.crd b)) n
        ∗ dutyTok ER (cel c (.snd (slotOf n) x b)) (n / 2) 0 ∗ reached ER (cel c (.snd (slotOf n) x b)) (n / 2)
        ∗ dutyTok ER (cel (dst b c) (.rcv (oth (slotOf n)) x b)) (n / 2) 0
        ∗ owed c (O + oweHop c n x b)
        ∗ ((cred (tallyAt (cel c (.snd (slotOf n) x b)) 0 N) ∗ owed c O) -∗ Q ⟨⟩))
      ⊢ run c (send c (slotOf n) x b) Q := by
  unfold send hole owed
  simp only [Prog.lift]
  iintro ⟨#Hc, Hs, ⟨⟨%X, Hd⟩, #Hr⟩, #Hcr, Ht, #Hrs, Ht', ⟨%W, HO⟩, HQ⟩
  ihave Hs' := (show holds c x (slotOf n) b fullShare.left (chunk A x b c n) ⊢ iprop(∃ f, ⌜(halfM x (slotOf n) b).view.read (Elt F) f = chunk A x b c n⌝
    ∗ ((halfM x (slotOf n) b).view.loc (c : Thread nD τ) ↦[(halfM x (slotOf n) b).view.set]{fullShare.left} f)) from .rfl) $$ Hs
  ihave Hd' := (show holds (dst b c) x (oth (slotOf n)) b fullShare X ⊢ iprop(∃ f, ⌜(halfM x (oth (slotOf n)) b).view.read (Elt F) f = X⌝
    ∗ ((halfM x (oth (slotOf n)) b).view.loc (dst b c : Thread nD τ) ↦[(halfM x (oth (slotOf n)) b).view.set]{fullShare} f)) from .rfl) $$ Hd
  icases Hs' with ⟨%fs, %hfs, Hs⟩
  icases Hd' with ⟨%fd, %hfd, Hd⟩
  iapply (Rounds.wp_send_pointsTo_with 𝒱₀ ER (Rd A) (c : Thread nD τ) none (κ₁ := K (c, .snd (slotOf n) x b))
      (κ₂ := K (dst b c, .rcv (oth (slotOf n)) x b)) (r₁ := n / 2) (r₂ := n / 2) (d₁ := 0) (d₂ := 0) (fs := fs) (fd := fd)
      (F := reached ER (cel c (.crd b)) n)
      (mem_duties A c (.snd (slotOf n) x b) (n / 2) (by simp) (snd_lt hn x b))
      (mem_duties A (dst b c) (.rcv (oth (slotOf n)) x b) (n / 2) (by simp) (rcv_lt hn x b))
      n 0 N (credit_half x (oth (slotOf n)) b) (amount_cel A c (.snd (slotOf n) x b) (n / 2) 0)
      (amount_cel A (dst b c) (.rcv (oth (slotOf n)) x b) (n / 2) 0) O rfl (W := W)
      (by
        rw [payload_cel A c (.snd (slotOf n) x b), pay_snd]
        exact holds_intro c x (slotOf n) b _ _ fs hfs)
      (by
        rw [payload_cel A (dst b c) (.rcv (oth (slotOf n)) x b), pay_rcv]; unfold landed
        rw [chunk_dst, dst_dst]
        exact sep_mono_left (holds_intro (dst b c) x (oth (slotOf n)) b _ _ _ (by rw [View.read_write_univ]; exact hfs))))
    $$ [Hs Hd HO Ht Ht']
  · isplitr; · iapply (ctx_inv A K c (.snd (slotOf n) x b)); iexact Hc
    isplitr; · iapply (ctx_inv A K (dst b c) (.rcv (oth (slotOf n)) x b)); iexact Hc
    isplitl [Hs]; · iexact Hs
    isplitl [Hd]
    · isplitl [Hd]; · iexact Hd
      iexact Hcr
    isplitl [HO]; · iexact HO
    isplitl [Ht]; · iexact Ht
    isplitr; · iexact Hrs
    isplitl [Ht']; · iexact Ht'
    iexact Hr
  iintro ⟨Hcr', HO⟩
  rw [wp_ret]; imodintro
  iapply HQ
  isplitl [Hcr']; · iexact Hcr'
  iexists W; iexact HO

/-! ## The waits -/

/-- A wait for the one duty of round `r` of device `c`'s cell `k`, by whatever operation waits on it. -/
theorem run_wait (c : Dev nD) (k : CK) (hk : k ≠ .bar) {r : ℕ} (hr : r < last k) (ix : ℕ) (hi : ix < 16) (O : CellTallies nD τ sig ℕ)
    {lb : ℕ} (hO : Above lb O) (hlb : lvK k ix < lb) {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (csem k) (amountK k) P)
    (Q : PUnit → sProp 𝕄) :
    iprop(ctx A K ∗ cred (tallyAt (cel c k) ix (amountK k)) ∗ owed c O ∗ atPos ER (cel c k) r ∅ 0
        ∗ ((owed c O ∗ atPos ER (cel c k) (r + 1) ∅ 0 ∗ reached ER (cel c k) (r + 1) ∗ payK A c k r 0) -∗ Q ⟨⟩))
      ⊢ run c (Prog.lift w) Q := by
  unfold owed
  simp only [Prog.lift]
  iintro ⟨#Hc, Hcr, ⟨%W, HO⟩, Hat, HQ⟩
  iapply (Rounds.wp_wait_rest_token 𝒱₀ ER (Rd A) (c : Thread nD τ) none (κ := K (c, k)) (sm := csem k) (k' := amountK k)
      hw (Set.mem_univ _) ix (O := O) (W := W) (R := r) (m := 0) (T := ∅)
      (by rw [Nat.zero_add]; exact (expect_one A c k r hk hr).symm)) $$ [Hcr HO Hat]
  · isplitr; · iapply (ctx_inv A K c k); iexact Hc
    isplitl [Hcr]; · iexact Hcr
    isplitl [HO]; · iexact HO
    isplitr
    · iapply (ctx_mayWait A K c k hi O hO hlb); iexact Hc
    iexact Hat
  iintro ⟨HO, Hat, Hr, Hpay⟩
  ihave Hp := (Entails.of_eq (rest_one A c k r hk hr)) $$ Hpay
  rw [wp_ret]; imodintro
  iapply HQ
  isplitl [HO]; · iexists _; iexact HO
  isplitl [Hat]; · iexact Hat
  isplitl [Hr]; · iexact Hr
  iexact Hp

/-- The wait for hop `n`'s transfer to have left: the lent share is back. -/
theorem run_waitSend (c : Dev nD) {n : ℕ} (hn : n < 15) (x b : Fin 2) (O : CellTallies nD τ sig ℕ) (hO : Above 1 O) (Q : PUnit → sProp 𝕄) :
    iprop(ctx A K ∗ cred (tallyAt (cel c (.snd (slotOf n) x b)) 0 N) ∗ owed c O ∗ atPos ER (cel c (.snd (slotOf n) x b)) (n / 2) ∅ 0
        ∗ ((owed c O ∗ atPos ER (cel c (.snd (slotOf n) x b)) (n / 2 + 1) ∅ 0 ∗ reached ER (cel c (.snd (slotOf n) x b)) (n / 2 + 1)
            ∗ holds c x (slotOf n) b fullShare.left (chunk A x b c n)) -∗ Q ⟨⟩))
      ⊢ run c (waitSend (slotOf n) x b) Q := by
  have h := run_wait A K c (.snd (slotOf n) x b) (by simp) (snd_lt hn x b) 0 (by omega) O hO (Nat.zero_lt_one)
    (w := .waitDma2 (at2 (sendA b) (slotOf n) x) (halfM x (oth (slotOf n)) b) (halfM x (slotOf n) b) (half_exact x (oth (slotOf n)) b) (half_exact x (slotOf n) b))
    (fun P => by
      rw [wpE_waitDma2_eq 𝒱₀ (c : Thread nD τ) none Set.univ]
      exact congrArg (fun a => waitSpec (c : Thread nD τ) Set.univ _ a P) (credit_half x _ b)) Q
  rw [pay_snd] at h
  exact h

/-- The wait for hop `n`'s transfer from the other side to have landed. -/
theorem run_waitRecv (c : Dev nD) {n : ℕ} (hn : n < 15) (x b : Fin 2) (O : CellTallies nD τ sig ℕ) (hO : Above (3 * n + 4) O) (Q : PUnit → sProp 𝕄) :
    iprop(ctx A K ∗ cred (tallyAt (cel c (.rcv (oth (slotOf n)) x b)) n N) ∗ owed c O ∗ atPos ER (cel c (.rcv (oth (slotOf n)) x b)) (n / 2) ∅ 0
        ∗ ((owed c O ∗ atPos ER (cel c (.rcv (oth (slotOf n)) x b)) (n / 2 + 1) ∅ 0 ∗ reached ER (cel c (.rcv (oth (slotOf n)) x b)) (n / 2 + 1)
            ∗ landed A c x (oth (slotOf n)) b n) -∗ Q ⟨⟩))
      ⊢ run c (waitRecv (slotOf n) x b) Q := by
  have h := run_wait A K c (.rcv (oth (slotOf n)) x b) (by simp) (rcv_lt hn x b) n (by omega) O hO (Nat.lt_succ_self _)
    (w := .waitDma2 (at2 (recvA b) (oth (slotOf n)) x) (halfM x (slotOf n) b) (halfM x (oth (slotOf n)) b) (half_exact x (slotOf n) b) (half_exact x (oth (slotOf n)) b))
    (fun P => by
      rw [wpE_waitDma2_eq 𝒱₀ (c : Thread nD τ) none Set.univ]
      exact congrArg (fun a => waitSpec (c : Thread nD τ) Set.univ _ a P) (credit_half x _ b)) Q
  rw [pay_rcv] at h
  exact h

/-! ## The hand-over -/

/-- A credit signal after hop `n`: device `c` offers the halves it has finished with to the neighbour they came from. -/
theorem run_signal (c : Dev nD) {n : ℕ} (hn : n < 14) (b : Fin 2) (O : CellTallies nD τ sig ℕ) (Q : PUnit → sProp 𝕄) :
    iprop(ctx A K ∗ offer (dst (oth b) c) b (n + 1) ∗ reached ER (cel (dst (oth b) c) (.crd b)) n
        ∗ dutyTok ER (cel (dst (oth b) c) (.crd b)) n 0 ∗ owed c (O + oweCrd c n b) ∗ (owed c O -∗ Q ⟨⟩))
      ⊢ run c (semSignalWord (dst (oth b) c) (credA b).sem 1#32) Q := by
  unfold owed
  simp only [semSignalWord, Prog.lift]
  iintro ⟨#Hc, Hoff, #Hr, Ht, ⟨%W, HO⟩, HQ⟩
  iapply (Rounds.wp_signal 𝒱₀ ER (Rd A) (c : Thread nD τ) none (dst := (dst (oth b) c : Thread nD τ)) (κ := K (dst (oth b) c, .crd b))
      (d := 0) (mem_duties A (dst (oth b) c) (.crd b) n (by simp) hn) ((amount_cel A (dst (oth b) c) (.crd b) n 0).trans rfl) n O rfl)
    $$ [HO Hoff Ht]
  · isplitr; · iapply (ctx_inv A K (dst (oth b) c) (.crd b)); iexact Hc
    isplitl [HO]; · iexact HO
    isplitl [Ht]; · iexact Ht
    isplitl [Hoff]
    · rw [payload_cel A (dst (oth b) c) (.crd b) n 0, pay_crd]; iexact Hoff
    iexact Hr
  iintro HO
  rw [wp_ret]; imodintro
  iapply HQ; iexists W; iexact HO

/-- The wait for a credit after hop `n`: the neighbour's free halves for the next hop. -/
theorem run_credit (c : Dev nD) {n : ℕ} (hn : n < 14) (b : Fin 2) (O : CellTallies nD τ sig ℕ) (hO : Above (3 * n + 5) O) (Q : PUnit → sProp 𝕄) :
    iprop(ctx A K ∗ cred (tallyAt (cel c (.crd b)) n 1) ∗ owed c O ∗ atPos ER (cel c (.crd b)) n ∅ 0
        ∗ ((owed c O ∗ atPos ER (cel c (.crd b)) (n + 1) ∅ 0 ∗ reached ER (cel c (.crd b)) (n + 1) ∗ offer c b (n + 1)) -∗ Q ⟨⟩))
      ⊢ run c (semWaitWord (credA b).sem 1#32) Q := by
  exact run_wait A K c (.crd b) (by simp) hn n (by omega) O hO (Nat.lt_succ_self _)
    (w := .semWait (credA b).sem 1) (fun P => wpE_semWait_eq 𝒱₀ (c : Thread nD τ) none Set.univ P) Q

/-- The barrier signal to the neighbour in direction `oth b`: device `c` offers the halves it will receive direction `b` into. -/
theorem run_signalBar (c : Dev nD) (b : Fin 2) (O : CellTallies nD τ sig ℕ) (Q : PUnit → sProp 𝕄) :
    iprop(ctx A K ∗ offer (dst (oth b) c) b 0
        ∗ dutyTok ER (cel (dst (oth b) c) .bar) 0 b ∗ owed c (O + oweBar c (oth b)) ∗ (owed c O -∗ Q ⟨⟩))
      ⊢ run c (semSignalWord (dst (oth b) c) barS 1#32) Q := by
  unfold owed
  simp only [semSignalWord, Prog.lift]
  iintro ⟨#Hc, Hoff, Ht, ⟨%W, HO⟩, HQ⟩
  iapply (Rounds.wp_signal 𝒱₀ ER (Rd A) (c : Thread nD τ) none (dst := (dst (oth b) c : Thread nD τ)) (κ := K (dst (oth b) c, .bar))
      (d := b) (by rw [duties_bar A (dst (oth b) c)]; exact Finset.mem_univ _) ((amount_cel A (dst (oth b) c) .bar 0 b).trans rfl) 0 O rfl)
    $$ [HO Hoff Ht]
  · isplitr; · iapply (ctx_inv A K (dst (oth b) c) .bar); iexact Hc
    isplitl [HO]; · iexact HO
    isplitl [Ht]; · iexact Ht
    isplitl [Hoff]
    · rw [payload_cel A (dst (oth b) c) .bar 0 b, pay_bar]; iexact Hoff
    iapply (ctx_reached A K (dst (oth b) c) .bar); iexact Hc
  iintro HO
  rw [wp_ret]; imodintro
  iapply HQ; iexists W; iexact HO

/-- The barrier wait: both neighbours' free halves for hop `0`. -/
theorem run_waitBar (c : Dev nD) (O : CellTallies nD τ sig ℕ) (hO : Above 2 O) (Q : PUnit → sProp 𝕄) :
    iprop(ctx A K ∗ cred (tallyAt (cel c .bar) 0 2) ∗ owed c O ∗ atPos ER (cel c .bar) 0 ∅ 0
        ∗ ((owed c O ∗ atPos ER (cel c .bar) 1 ∅ 0 ∗ offer c 0 0 ∗ offer c 1 0) -∗ Q ⟨⟩))
      ⊢ run c (semWaitWord barS 2#32) Q := by
  unfold owed
  simp only [semWaitWord, Prog.lift]
  iintro ⟨#Hc, Hcr, ⟨%W, HO⟩, Hat, HQ⟩
  iapply (Rounds.wp_wait_rest_token 𝒱₀ ER (Rd A) (c : Thread nD τ) none (κ := K (c, .bar))
      (wpE_semWait_eq 𝒱₀ (c : Thread nD τ) none Set.univ) (Set.mem_univ _) 0 (O := O) (W := W) (R := 0) (m := 0) (T := ∅)
      (by rw [expect_bar A c]; decide)) $$ [Hcr HO Hat]
  · isplitr; · iapply (ctx_inv A K c .bar); iexact Hc
    isplitl [Hcr]; · iexact Hcr
    isplitl [HO]; · iexact HO
    isplitr
    · iapply (ctx_mayWait A K c .bar (ix := 0) (by omega) O hO (Nat.lt_succ_self 1)); iexact Hc
    iexact Hat
  iintro ⟨HO, Hat, -, Hpay⟩
  ihave Hp := (Entails.of_eq (rest_bar A c)) $$ Hpay
  icases Hp with ⟨H0, H1⟩
  rw [wp_ret]; imodintro
  iapply HQ
  isplitl [HO]; · iexists _; iexact HO
  isplitl [Hat]; · iexact Hat
  isplitl [H0] <;> iassumption

end Cert.KernelIdeal.Ring
end
-- ==== Proof.KI.Slot.lean ====
/-
# A slot and its two halves

The transfers move halves of a slot, the block update loads the whole of it. A buffer is its two slots, a slot its two halves.
-/
module

public import proofs.«01_k».proof.Proof.KI.Hop
public import Idealize.ShloMosaic.Lib.ValueLayout

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

theorem elt_nonempty : ∀ e, Nonempty (Elt F e) := fun e => ⟨default⟩

/-! ## The rectangles -/

theorem inb_sub (b : Fin 2) : ∀ a, (![0, 2048 * b.val, 0] : Fin 3 → ℕ) a + S1x2048x512.size a ≤ S1x4096x512.size a := by
  revert b; decide

/-- Half `b` within one slot. -/
abbrev subRect (b : Fin 2) : Rect S1x4096x512 := Rect.unit (s := S1x4096x512) ![0, 2048 * b.val, 0] S1x2048x512.size (inb_sub b)

theorem mem_slotRect (s : Fin 2) (i : S2x4096x512.Idx) : i ∈ (slotRect s).set ↔ (i 0).val = s.val := by
  have h0 : (i 0).val < 2 := (i 0).isLt
  have h1 : (i 1).val < 4096 := (i 1).isLt
  have h2 : (i 2).val < 512 := (i 2).isLt
  rw [Rect.mem_set_unit]
  constructor
  · intro h
    have h : s.val ≤ (i 0).val ∧ (i 0).val < s.val + 1 := h 0
    omega
  · intro h a
    match a with
    | ⟨0, _⟩ => exact (show s.val ≤ (i 0).val ∧ (i 0).val < s.val + 1 by omega)
    | ⟨1, _⟩ => exact (show 0 ≤ (i 1).val ∧ (i 1).val < 0 + 4096 by omega)
    | ⟨2, _⟩ => exact (show 0 ≤ (i 2).val ∧ (i 2).val < 0 + 512 by omega)

theorem mem_subRect (b : Fin 2) (i : S1x4096x512.Idx) : i ∈ (subRect b).set ↔ (i 1).val / 2048 = b.val := by
  have h0 : (i 0).val < 1 := (i 0).isLt
  have h1 : (i 1).val < 4096 := (i 1).isLt
  have h2 : (i 2).val < 512 := (i 2).isLt
  rw [Rect.mem_set_unit]
  constructor
  · intro h
    have h : 2048 * b.val ≤ (i 1).val ∧ (i 1).val < 2048 * b.val + 2048 := h 1
    omega
  · intro h a
    match a with
    | ⟨0, _⟩ => exact (show 0 ≤ (i 0).val ∧ (i 0).val < 0 + 1 by omega)
    | ⟨1, _⟩ => exact (show 2048 * b.val ≤ (i 1).val ∧ (i 1).val < 2048 * b.val + 2048 by omega)
    | ⟨2, _⟩ => exact (show 0 ≤ (i 2).val ∧ (i 2).val < 0 + 512 by omega)

theorem slots_disjoint (s s' : Fin 2) (h : s ≠ s') : Disjoint (slotRect s).set (slotRect s').set :=
  Finset.disjoint_left.mpr fun i hi hi' => h (Fin.ext (((mem_slotRect s i).mp hi).symm.trans ((mem_slotRect s' i).mp hi')))
theorem slots_cover : (Finset.univ : Finset (Fin 2)).biUnion (fun s => (slotRect s).set) = Finset.univ :=
  Finset.eq_univ_of_forall fun i => Finset.mem_biUnion.mpr ⟨i 0, Finset.mem_univ _, (mem_slotRect (i 0) i).mpr rfl⟩
theorem subs_disjoint (b b' : Fin 2) (h : b ≠ b') : Disjoint (subRect b).set (subRect b').set :=
  Finset.disjoint_left.mpr fun i hi hi' => h (Fin.ext (((mem_subRect b i).mp hi).symm.trans ((mem_subRect b' i).mp hi')))
theorem subs_cover : (Finset.univ : Finset (Fin 2)).biUnion (fun b => (subRect b).set) = Finset.univ :=
  Finset.eq_univ_of_forall fun i => Finset.mem_biUnion.mpr ⟨⟨(i 1).val / 2048, by have h1 : (i 1).val < 4096 := (i 1).isLt; omega⟩,
    Finset.mem_univ _, (mem_subRect _ i).mpr rfl⟩

/-! ## A slot -/

/-- Slot `s` of buffer `x`, -/
abbrev slotM (x s : Fin 2) : Memref sig .tc .vmem S1x4096x512 .bf16 := (kvM x).slice (slotRect s) (fun _ => rfl)
/-- and its half `b`. -/
abbrev subM (x s b : Fin 2) : Memref sig .tc .vmem S1x2048x512 .bf16 := (slotM x s).slice (subRect b) (fun _ => rfl)

/-- A block as the contents of a slot, and half a block as those of half a slot. -/
def slotted (Z : S4096x512.Idx → Elt F .bf16) : S1x4096x512.Idx → Elt F .bf16 := fun j => Z (ix2 (j 1) (j 2))
def subbed (X : S2048x512.Idx → Elt F .bf16) : S1x2048x512.Idx → Elt F .bf16 := fun j => X (ix2 (j 1) (j 2))

theorem slotted_sub (Z : S4096x512.Idx → Elt F .bf16) (b : Fin 2) : (fun j => slotted Z ((subRect b).emb j)) = subbed (half b Z) := by
  funext j
  refine congrArg Z ?_
  funext a
  match a with
  | ⟨0, _⟩ => rfl
  | ⟨1, _⟩ => rfl

/-- A half of a slot is the half the transfers name: the same elements in the same order. -/
theorem emb_sub (x s b : Fin 2) : (subM x s b).view.emb = ((kvM x).view.slice (halfRect s b)).emb := by
  refine Function.Embedding.ext fun j => ?_
  show (kvM x).view.emb ((slotRect s).emb ((subRect b).emb j)) = (kvM x).view.emb ((halfRect s b).emb j)
  refine congrArg (kvM x).view.emb ?_
  funext a
  refine Fin.ext ?_
  match a with
  | ⟨0, _⟩ => show s.val + 1 * (0 + 1 * (j 0).val) = s.val + 1 * (j 0).val; omega
  | ⟨1, _⟩ => show 0 + 1 * (2048 * b.val + 1 * (j 1).val) = 2048 * b.val + 1 * (j 1).val; omega
  | ⟨2, _⟩ => show 0 + 1 * (0 + 1 * (j 2).val) = 0 + 1 * (j 2).val; omega

theorem set_sub (x s b : Fin 2) : (subM x s b).view.set = (halfM x s b).view.set := by
  have h : (subM x s b).view.set = ((kvM x).view.slice (halfRect s b)).set := congrArg (Finset.univ.map ·) (emb_sub x s b)
  rw [h]; exact (View.set_reshape _ _).symm

theorem read_sub (x s b : Fin 2) (f : (kvM x).view.ty.Contents (Elt F)) (p : Fin 2048) (e : Fin 512) :
    (halfM x s b).view.read (Elt F) f (ix2 p e) = (subM x s b).view.read (Elt F) f (ix3 (⟨0, Nat.one_pos⟩ : Fin 1) p e) := by
  have h : (halfM x s b).view.emb (ix2 p e) = (subM x s b).view.emb (ix3 (⟨0, Nat.one_pos⟩ : Fin 1) p e) := by
    rw [emb_sub x s b]
    show ((kvM x).view.slice (halfRect s b)).emb (Shape.reshapeEquiv _ (ix2 p e)) = _
    rw [reshapeEquiv_ix2_1ab]
  exact congrArg ((kvM x).view.read (Elt F) f) (show (halfRect s b).emb (Shape.reshapeEquiv _ (ix2 p e)) = (slotRect s).emb ((subRect b).emb (ix3 (⟨0, Nat.one_pos⟩ : Fin 1) p e)) from
    (kvM x).view.emb.injective h)

theorem read_subbed (x s b : Fin 2) (f : (kvM x).view.ty.Contents (Elt F)) (X : S2048x512.Idx → Elt F .bf16) :
    (halfM x s b).view.read (Elt F) f = X ↔ (subM x s b).view.read (Elt F) f = subbed X := by
  constructor
  · intro h; subst h; funext j
    obtain ⟨z, p, e, rfl⟩ : ∃ (z : Fin 1) (p : Fin 2048) (e : Fin 512), j = ix3 z p e := ⟨j 0, j 1, j 2, eq_ix3 j⟩
    obtain rfl : z = ⟨0, Nat.one_pos⟩ := Subsingleton.elim _ _
    exact (read_sub x s b f p e).symm
  · intro h; funext i
    obtain ⟨p, e, rfl⟩ : ∃ (p : Fin 2048) (e : Fin 512), i = ix2 p e := ⟨i 0, i 1, eq_ix2 i⟩
    rw [read_sub, h]; rfl

variable (c : Dev nD) (q : PosShare TreeShare)

theorem sub_of_half (x s b : Fin 2) (X : S2048x512.Idx → Elt F .bf16) :
    (holds c x s b q X : sProp 𝕄) ⊢ owns (c : Thread nD τ) (subM x s b) q (subbed X) := by
  refine (show (holds c x s b q X : sProp 𝕄) ⊢ iprop(∃ f, ⌜(halfM x s b).view.read (Elt F) f = X⌝
    ∗ ((halfM x s b).view.loc (c : Thread nD τ) ↦[(halfM x s b).view.set]{q} f)) from .rfl).trans ?_
  iintro ⟨%f, %hf, H⟩
  rw [← (read_subbed x s b f X).mp hf]
  iapply (owns_intro (c : Thread nD τ) (subM x s b) q f)
  rw [set_sub]; iexact H

theorem half_of_sub (x s b : Fin 2) (X : S2048x512.Idx → Elt F .bf16) :
    (owns (c : Thread nD τ) (subM x s b) q (subbed X) : sProp 𝕄) ⊢ holds c x s b q X := by
  refine (show (owns (c : Thread nD τ) (subM x s b) q (subbed X) : sProp 𝕄) ⊢ iprop(∃ f, ⌜(subM x s b).view.read (Elt F) f = subbed X⌝
    ∗ ((subM x s b).view.loc (c : Thread nD τ) ↦[(subM x s b).view.set]{q} f)) from .rfl).trans ?_
  iintro ⟨%f, %hf, H⟩
  iapply (holds_intro c x s b q X f ((read_subbed x s b f X).mpr hf))
  rw [← set_sub]; iexact H

/-- Slot `s` of buffer `x` holding block `Z`. -/
abbrev slab (x s : Fin 2) (Z : S4096x512.Idx → Elt F .bf16) : sProp 𝕄 := owns (c : Thread nD τ) (slotM x s) q (slotted Z)

theorem slab_of_halves (x s : Fin 2) (Z : S4096x512.Idx → Elt F .bf16) :
    iprop(holds c x s 0 q (half 0 Z) ∗ holds c x s 1 q (half 1 Z)) ⊢ (slab c q x s Z : sProp 𝕄) := by
  haveI := elt_nonempty (F := F)
  refine .trans ?_ (owns_of_rects (c : Thread nD τ) (slotM x s) q subRect (fun _ _ => rfl) subs_disjoint subs_cover (slotted Z))
  rw [bigSep_congr (fun b _ => by rw [slotted_sub] : ∀ b ∈ (Finset.univ : Finset (Fin 2)), _ = owns (c : Thread nD τ) (subM x s b) q (subbed (half b Z))),
    bigSep_univ_two]
  exact BI.sep_mono (sub_of_half c q x s 0 _) (sub_of_half c q x s 1 _)

theorem halves_of_slab (x s : Fin 2) (Z : S4096x512.Idx → Elt F .bf16) :
    (slab c q x s Z : sProp 𝕄) ⊢ iprop(holds c x s 0 q (half 0 Z) ∗ holds c x s 1 q (half 1 Z)) := by
  refine (owns_rects (c : Thread nD τ) (slotM x s) q subRect (fun _ _ => rfl) subs_disjoint subs_cover (slotted Z)).trans ?_
  rw [bigSep_congr (fun b _ => by rw [slotted_sub] : ∀ b ∈ (Finset.univ : Finset (Fin 2)), _ = owns (c : Thread nD τ) (subM x s b) q (subbed (half b Z))),
    bigSep_univ_two]
  exact BI.sep_mono (half_of_sub c q x s 0 _) (half_of_sub c q x s 1 _)

/-- Any contents of a slot are a block's. -/
theorem slotted_surj (Y : S1x4096x512.Idx → Elt F .bf16) : Y = slotted fun i => Y (ix3 (⟨0, Nat.one_pos⟩ : Fin 1) (i 0) (i 1)) := by
  funext j
  obtain ⟨z, p, e, rfl⟩ : ∃ (z : Fin 1) (p : Fin 4096) (e : Fin 512), j = ix3 z p e := ⟨j 0, j 1, j 2, eq_ix3 j⟩
  obtain rfl : z = ⟨0, Nat.one_pos⟩ := Subsingleton.elim _ _
  rfl

/-- Two half blocks side by side. -/
def joined (X₀ X₁ : S2048x512.Idx → Elt F .bf16) : S4096x512.Idx → Elt F .bf16 := fun i =>
  if h : (i 0).val < 2048 then X₀ (ix2 ⟨(i 0).val, h⟩ (i 1))
  else X₁ (ix2 ⟨(i 0).val - 2048, by have : (i 0).val < 4096 := (i 0).isLt; omega⟩ (i 1))

theorem half_joined (X₀ X₁ : S2048x512.Idx → Elt F .bf16) : half 0 (joined X₀ X₁) = X₀ ∧ half 1 (joined X₀ X₁) = X₁ := by
  constructor
  · funext i
    have hi : (i 0).val < 2048 := (i 0).isLt
    have h : ((rowsRect 0).emb i 0).val = (i 0).val := by show 2048 * 0 + 1 * (i 0).val = _; omega
    unfold half joined
    rw [dif_pos (by omega)]
    refine congrArg X₀ ?_
    funext a
    match a with
    | ⟨0, _⟩ => exact Fin.ext h
    | ⟨1, _⟩ => exact Fin.ext (show 0 + 1 * (i 1).val = (i 1).val by omega)
  · funext i
    have hi : (i 0).val < 2048 := (i 0).isLt
    have h : ((rowsRect 1).emb i 0).val = 2048 + (i 0).val := by show 2048 * 1 + 1 * (i 0).val = _; omega
    unfold half joined
    rw [dif_neg (by omega)]
    refine congrArg X₁ ?_
    funext a
    match a with
    | ⟨0, _⟩ => exact Fin.ext (show ((rowsRect 1).emb i 0).val - 2048 = (i 0).val by omega)
    | ⟨1, _⟩ => exact Fin.ext (show 0 + 1 * (i 1).val = (i 1).val by omega)

/-- A whole buffer is its two slots, at some contents; -/
theorem slabs_of_buffer (x : Fin 2) (Y : S2x4096x512.Idx → Elt F .bf16) :
    (owns (c : Thread nD τ) (kvM x) q Y : sProp 𝕄) ⊢ iprop(∃ Z₀ Z₁, slab c q x 0 Z₀ ∗ slab c q x 1 Z₁) := by
  refine (owns_rects (c : Thread nD τ) (kvM x) q slotRect (fun _ _ => rfl) slots_disjoint slots_cover Y).trans ?_
  rw [bigSep_univ_two]
  have h (s : Fin 2) : (owns (c : Thread nD τ) (slotM x s) q (fun j => Y ((slotRect s).emb j)) : sProp 𝕄)
      = slab c q x s fun i => Y ((slotRect s).emb (ix3 (⟨0, Nat.one_pos⟩ : Fin 1) (i 0) (i 1))) :=
    congrArg (owns (c : Thread nD τ) (slotM x s) q) (slotted_surj fun j => Y ((slotRect s).emb j))
  refine (Entails.of_eq (congrArg₂ BIBase.sep (h 0) (h 1))).trans ?_
  iintro H
  iexists _; iexists _; iexact H

/-- and its four halves, at any contents, are the whole buffer again. -/
theorem buffer_of_halves (x : Fin 2) (X : Fin 2 → Fin 2 → S2048x512.Idx → Elt F .bf16) :
    iprop((holds c x 0 0 q (X 0 0) ∗ holds c x 0 1 q (X 0 1)) ∗ (holds c x 1 0 q (X 1 0) ∗ holds c x 1 1 q (X 1 1)))
      ⊢ (iprop(∃ Y, owns (c : Thread nD τ) (kvM x) q Y) : sProp 𝕄) := by
  haveI := elt_nonempty (F := F)
  let Z (s : Fin 2) := joined (X s 0) (X s 1)
  let Y : S2x4096x512.Idx → Elt F .bf16 := fun j => Z (j 0) (ix2 (j 1) (j 2))
  have hY (s : Fin 2) : (fun j => Y ((slotRect s).emb j)) = slotted (Z s) := by
    funext j
    have h0 : (j 0).val < 1 := (j 0).isLt
    have hs : (slotRect s).emb j 0 = s := Fin.ext (show s.val + 1 * (j 0).val = s.val by omega)
    show Z ((slotRect s).emb j 0) _ = Z s _
    rw [hs]
    refine congrArg (Z s) ?_
    funext a
    match a with
    | ⟨0, _⟩ => exact Fin.ext (show 0 + 1 * (j 1).val = (j 1).val by omega)
    | ⟨1, _⟩ => exact Fin.ext (show 0 + 1 * (j 2).val = (j 2).val by omega)
  have hx (s : Fin 2) : iprop(holds c x s 0 q (X s 0) ∗ holds c x s 1 q (X s 1)) ⊢ (slab c q x s (Z s) : sProp 𝕄) := by
    have h := slab_of_halves (F := F) c q x s (Z s)
    rw [(half_joined (X s 0) (X s 1)).1, (half_joined (X s 0) (X s 1)).2] at h; exact h
  refine (BI.sep_mono (hx 0) (hx 1)).trans ?_
  have h (s : Fin 2) : (slab c q x s (Z s) : sProp 𝕄) = owns (c : Thread nD τ) (slotM x s) q (fun j => Y ((slotRect s).emb j)) :=
    congrArg (owns (c : Thread nD τ) (slotM x s) q) (hY s).symm
  refine (Entails.of_eq ((congrArg₂ BIBase.sep (h 0) (h 1)).trans (bigSep_univ_two fun s : Fin 2 =>
    (owns (c : Thread nD τ) (slotM x s) q (fun j => Y ((slotRect s).emb j)) : sProp 𝕄)).symm)).trans ?_
  refine (owns_of_rects (c : Thread nD τ) (kvM x) q slotRect (fun _ _ => rfl) slots_disjoint slots_cover Y).trans ?_
  iintro H; iexists Y; iexact H

end Cert.KernelIdeal.Ring
end
-- ==== Proof.KI.Update.lean ====
/-
# The block update

One trip takes 512 query rows against the keys and values of a slot and rewrites those rows of the running maximum, the
running sum and the accumulator; the update is the eight trips.
-/
module

public import proofs.«01_k».proof.Proof.KI.Slot

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

/-- The running values: the row maxima, the row sums, the weighted sum of value rows. -/
structure St (F : FTy → Type) where
  m : S4096x1.Idx → Elt F .f32
  l : S4096x1.Idx → Elt F .f32
  a : S4096x512.Idx → Elt F .f32

/-- The rows of trip `t`. -/
abbrev rows (t : Fin k0_t1_loop.trips) : Rect S4096x512 := Rect.unit (s := S4096x512) (k0_off1 t) S512x512.size (k0_off1_inb t)
abbrev col (t : Fin k0_t1_loop.trips) : Rect S4096x1 := Rect.unit (s := S4096x1) (k0_off2 t) S512x1.size (k0_off2_inb t)

section Pure
variable (q k v : S4096x512.Idx → Elt F .bf16)

/-- The running values after one trip, -/
def tripSt (t : Fin k0_t1_loop.trips) (S : St F) : St F :=
  let qr := qM.view.readAt (Elt F) (rows t).toLoadRect q
  let mr := mM.view.readAt (Elt F) (col t).toLoadRect S.m
  let lr := lM.view.readAt (Elt F) (col t).toLoadRect S.l
  let ar := accM.view.readAt (Elt F) (rows t).toLoadRect S.a
  { m := (mM.access (col t)).write (Elt F) S.m (k0_pay107 (k0_pay5 qr (slotted k) mr)) Finset.univ
    l := (lM.access (col t)).write (Elt F) S.l (k0_pay8 qr (slotted k) mr lr) Finset.univ
    a := (accM.access (rows t)).write (Elt F) S.a (k0_pay106 (k0_pay9 qr (slotted k) mr ar (slotted v))) Finset.univ }

/-- after the first `t` trips, -/
def tripsSt (S : St F) : ℕ → St F
  | 0 => S
  | t + 1 => if h : t < k0_t1_loop.trips then tripSt q k v ⟨t, h⟩ (tripsSt S t) else tripsSt S t

/-- and after all of them. -/
def updateSt (S : St F) : St F := tripsSt q k v S k0_t1_loop.trips

end Pure

variable (c : Dev nD)

/-- The running values as device `c` holds them. -/
def cols (S : St F) : sProp 𝕄 :=
  iprop(((c : Thread nD τ).loc cc0_scratch3 ↦{fullShare} (S.m : Buf (Elt F) ((c : Thread nD τ).loc cc0_scratch3)))
    ∗ ((c : Thread nD τ).loc cc0_scratch4 ↦{fullShare} (S.l : Buf (Elt F) ((c : Thread nD τ).loc cc0_scratch4)))
    ∗ ((c : Thread nD τ).loc cc0_scratch2 ↦{fullShare} (S.a : Buf (Elt F) ((c : Thread nD τ).loc cc0_scratch2))))

/-- The staged query block. -/
def queries (q : S4096x512.Idx → Elt F .bf16) : sProp 𝕄 :=
  (c : Thread nD τ).loc cc0_stg0_0 ↦{fullShare} (q : Buf (Elt F) ((c : Thread nD τ).loc cc0_stg0_0))

theorem slab_elim (p : PosShare TreeShare) (x s : Fin 2) (Z : S4096x512.Idx → Elt F .bf16) :
    (slab c p x s Z : sProp 𝕄) ⊢ iprop(∃ f, ⌜((kvM x).access (slotRect s)).read (Elt F) f = slotted Z⌝
      ∗ (((kvM x).access (slotRect s)).loc (c : Thread nD τ) ↦[((kvM x).access (slotRect s)).set]{p} f)) := .rfl
theorem slab_intro (p : PosShare TreeShare) (x s : Fin 2) (Z : S4096x512.Idx → Elt F .bf16)
    (f : Buf (Elt F) (((kvM x).access (slotRect s)).loc (c : Thread nD τ))) (h : ((kvM x).access (slotRect s)).read (Elt F) f = slotted Z) :
    (((kvM x).access (slotRect s)).loc (c : Thread nD τ) ↦[((kvM x).access (slotRect s)).set]{p} f : sProp 𝕄) ⊢ slab c p x s Z := by
  unfold slab; rw [← h]; exact owns_intro (c : Thread nD τ) (slotM x s) p f

set_option maxHeartbeats 2000000 in
theorem run_trip (p : PosShare TreeShare) (s : Fin 2) (t : Fin k0_t1_loop.trips) (q k v : S4096x512.Idx → Elt F .bf16) (S : St F)
    (Q : Unit → sProp 𝕄) :
    iprop(queries c q ∗ slab c p 0 s k ∗ slab c p 1 s v ∗ cols c S
        ∗ ((queries c q ∗ slab c p 0 s k ∗ slab c p 1 s v ∗ cols c (tripSt q k v t S)) -∗ Q ⟨⟩))
      ⊢ run c (trip s t) Q := by
  unfold trip queries cols
  simp only [Prog.bind_lift]
  iintro ⟨Hq, Hk, Hv, ⟨Hm, Hl, Ha⟩, HQ⟩
  ihave Hk' := (slab_elim c p 0 s k) $$ Hk
  ihave Hv' := (slab_elim c p 1 s v) $$ Hv
  icases Hk' with ⟨%fk, %hk, Hk⟩
  icases Hv' with ⟨%fv, %hv, Hv⟩
  iapply (wp_load 𝒱₀ (c : Thread nD τ) none Set.univ (m := qM) (Finset.subset_univ _)) $$ Hq; iintro Hq
  iapply (wp_load_rect 𝒱₀ (c : Thread nD τ) none Set.univ (m := kvM 0) (r := slotRect s) (Finset.Subset.refl _)) $$ Hk; iintro Hk
  iapply (wp_load 𝒱₀ (c : Thread nD τ) none Set.univ (m := mM) (Finset.subset_univ _)) $$ Hm; iintro Hm
  iapply (wp_load 𝒱₀ (c : Thread nD τ) none Set.univ (m := lM) (Finset.subset_univ _)) $$ Hl; iintro Hl
  iapply (wp_load 𝒱₀ (c : Thread nD τ) none Set.univ (m := lM) (Finset.subset_univ _)) $$ Hl; iintro Hl
  iapply (wp_store 𝒱₀ (c : Thread nD τ) none Set.univ (m := lM) (r := col t) (Mk := Finset.univ) (Finset.subset_univ _)) $$ Hl; iintro Hl
  iapply (wp_load 𝒱₀ (c : Thread nD τ) none Set.univ (m := accM) (Finset.subset_univ _)) $$ Ha; iintro Ha
  iapply (wp_load_rect 𝒱₀ (c : Thread nD τ) none Set.univ (m := kvM 1) (r := slotRect s) (Finset.Subset.refl _)) $$ Hv; iintro Hv
  iapply (wp_load 𝒱₀ (c : Thread nD τ) none Set.univ (m := accM) (Finset.subset_univ _)) $$ Ha; iintro Ha
  iapply (wp_store 𝒱₀ (c : Thread nD τ) none Set.univ (m := accM) (r := rows t) (Mk := Finset.univ) (Finset.subset_univ _)) $$ Ha; iintro Ha
  iapply (wp_load 𝒱₀ (c : Thread nD τ) none Set.univ (m := mM) (Finset.subset_univ _)) $$ Hm; iintro Hm
  iapply (wp_store 𝒱₀ (c : Thread nD τ) none Set.univ (m := mM) (r := col t) (Mk := Finset.univ) (Finset.subset_univ _)) $$ Hm; iintro Hm
  rw [hk, hv]
  rw [show (pure PUnit.unit : PG F Unit) = .ret PUnit.unit from rfl, wp_ret]; imodintro
  iapply HQ
  isplitl [Hq]; · iexact Hq
  isplitl [Hk]; · iapply (slab_intro c p 0 s k fk hk); iexact Hk
  isplitl [Hv]; · iapply (slab_intro c p 1 s v fv hv); iexact Hv
  isplitl [Hm]; · iexact Hm
  isplitl [Hl]; · iexact Hl
  iexact Ha

/-- The block update against slot `s`. -/
theorem run_update (p : PosShare TreeShare) (s : Fin 2) (q k v : S4096x512.Idx → Elt F .bf16) (S : St F) (Q : Unit → sProp 𝕄) :
    iprop(queries c q ∗ slab c p 0 s k ∗ slab c p 1 s v ∗ cols c S
        ∗ ((queries c q ∗ slab c p 0 s k ∗ slab c p 1 s v ∗ cols c (updateSt q k v S)) -∗ Q ⟨⟩))
      ⊢ run c (update s) Q := by
  unfold update
  iintro ⟨Hq, Hk, Hv, HS, HQ⟩
  iapply (Scf.wp_for frame (wpE (defs₀ (F := F)) 𝒱₀ (c : Thread nD τ) none) Set.univ k0_t1_loop.lb k0_t1_loop.ub k0_t1_loop.st k0_t1_ok ⟨⟩
    (fun t _ => trip s t) (fun t _ => iprop(queries c q ∗ slab c p 0 s k ∗ slab c p 1 s v ∗ cols c (tripsSt q k v S t)))
    (fun t _ => by
      refine .trans ?_ (run_trip c p s t q k v (tripsSt q k v S t.val) _)
      rw [show tripsSt q k v S (t.val + 1) = tripSt q k v t (tripsSt q k v S t.val) from dif_pos t.isLt]
      iintro ⟨Hq, Hk, Hv, HS⟩
      isplitl [Hq]; · iexact Hq
      isplitl [Hk]; · iexact Hk
      isplitl [Hv]; · iexact Hv
      isplitl [HS]; · iexact HS
      iintro H; iexact H))
  isplitl [Hq Hk Hv HS]
  · isplitl [Hq]; · iexact Hq
    isplitl [Hk]; · iexact Hk
    isplitl [Hv]; · iexact Hv
    iexact HS
  · iintro %_ ⟨Hq, Hk, Hv, HS⟩
    iapply HQ
    isplitl [Hq]; · iexact Hq
    isplitl [Hk]; · iexact Hk
    isplitl [Hv]; · iexact Hv
    iexact HS

end Cert.KernelIdeal.Ring
end
-- ==== Proof.KI.Rounds.lean ====
/-
# The rounds

What a device holds before hop `n`, what a hop and a hand-over do to it, and the fourteen rounds by induction.
-/
module

public import proofs.«01_k».proof.Proof.KI.Update

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (A : Blocks F) (K : Dev nD × CK → ℕ) (q : S4096x512.Idx → Elt F .bf16)

/-- A program after another. -/
theorem run_bind (c : Dev nD) {α β : Type} (p : PG F α) (k : α → PG F β) (Q : β → sProp 𝕄) :
    run c (p >>= k) Q = run c p fun a => run c (k a) Q := wp_bind _ _ _ _ _ _

/-! ## The block a device holds -/

/-- What device `c` holds of buffer `x` at hop `n`: the upper half from one side, the lower from the other. -/
def blockAt (x : Fin 2) (c : Dev nD) (n : ℕ) : S4096x512.Idx → Elt F .bf16 := fun i =>
  A x (src (if (i 0).val < 2048 then 0 else 1) c n) i

theorem half_blockAt (x b : Fin 2) (c : Dev nD) (n : ℕ) : half b (blockAt A x c n) = chunk A x b c n := by
  funext i
  have hi : (i 0).val < 2048 := (i 0).isLt
  have h : ((rowsRect b).emb i 0).val = 2048 * b.val + (i 0).val := by show 2048 * b.val + 1 * (i 0).val = _; omega
  have hb : (if ((rowsRect b).emb i 0).val < 2048 then (0 : Fin 2) else 1) = b := by
    rw [h]
    match b with
    | 0 => exact if_pos (by show 2048 * 0 + (i 0).val < 2048; omega)
    | 1 => exact if_neg (by show ¬ 2048 * 1 + (i 0).val < 2048; omega)
  unfold half blockAt chunk half
  show A x (src (if ((rowsRect b).emb i 0).val < 2048 then 0 else 1) c n) _ = _
  rw [hb]

/-- The running values before the first block, -/
def st₀ : St F := ⟨k0_pay103 (k0_pay102 (F := F)), k0_pay104 (F := F), k0_pay105 (F := F)⟩

/-- and after the first `n`. -/
def stAt (c : Dev nD) : ℕ → St F
  | 0 => st₀
  | n + 1 => updateSt q (blockAt A 0 c n) (blockAt A 1 c n) (stAt c n)

variable (c : Dev nD)

/-! ## One buffer and direction -/

/-- Where the four cells of buffer `x` and direction `b` stand before hop `n`. -/
def stands (n : ℕ) (x b : Fin 2) : sProp 𝕄 :=
  iprop(atPos ER (cel c (.snd (slotOf n) x b)) (n / 2) ∅ 0 ∗ atPos ER (cel c (.snd (oth (slotOf n)) x b)) ((n + 1) / 2) ∅ 0
    ∗ atPos ER (cel c (.rcv (oth (slotOf n)) x b)) (n / 2) ∅ 0 ∗ atPos ER (cel c (.rcv (slotOf n) x b)) ((n + 1) / 2) ∅ 0
    ∗ reached ER (cel c (.snd (slotOf n) x b)) (n / 2) ∗ reached ER (cel c (.snd (oth (slotOf n)) x b)) ((n + 1) / 2)
    ∗ reached ER (cel c (.rcv (slotOf n) x b)) ((n + 1) / 2))

/-- Before hop `n`: those cells and the half to be sent. -/
def lane (n : ℕ) (x b : Fin 2) : sProp 𝕄 := iprop(stands c n x b ∗ holds c x (slotOf n) b fullShare (chunk A x b c n))

/-- The tokens hop `n` uses, and the credit its receive is waited for with. -/
def hopTok (n : ℕ) (x b : Fin 2) : sProp 𝕄 :=
  iprop(dutyTok ER (cel c (.snd (slotOf n) x b)) (n / 2) 0 ∗ dutyTok ER (cel (dst b c) (.rcv (oth (slotOf n)) x b)) (n / 2) 0
    ∗ cred (tallyAt (cel c (.rcv (oth (slotOf n)) x b)) n N))

/-- While the transfer is in flight: the cells, the credits of its two waits, -/
def flight (n : ℕ) (x b : Fin 2) : sProp 𝕄 :=
  iprop(stands c n x b ∗ cred (tallyAt (cel c (.snd (slotOf n) x b)) 0 N) ∗ cred (tallyAt (cel c (.rcv (oth (slotOf n)) x b)) n N))
/-- and the share of the sent half that stays. -/
def kept (n : ℕ) (x b : Fin 2) : sProp 𝕄 := holds c x (slotOf n) b fullShare.right (chunk A x b c n)

/-- Between the two waits. -/
def flight' (n : ℕ) (x b : Fin 2) : sProp 𝕄 :=
  iprop(atPos ER (cel c (.snd (slotOf n) x b)) (n / 2 + 1) ∅ 0 ∗ atPos ER (cel c (.snd (oth (slotOf n)) x b)) ((n + 1) / 2) ∅ 0
    ∗ atPos ER (cel c (.rcv (oth (slotOf n)) x b)) (n / 2) ∅ 0 ∗ atPos ER (cel c (.rcv (slotOf n) x b)) ((n + 1) / 2) ∅ 0
    ∗ reached ER (cel c (.snd (slotOf n) x b)) (n / 2 + 1) ∗ reached ER (cel c (.snd (oth (slotOf n)) x b)) ((n + 1) / 2)
    ∗ reached ER (cel c (.rcv (slotOf n) x b)) ((n + 1) / 2)
    ∗ cred (tallyAt (cel c (.rcv (oth (slotOf n)) x b)) n N)
    ∗ holds c x (slotOf n) b fullShare (chunk A x b c n))

/-- What a hop leaves for the hand-over: the half it finished with, as the neighbour will want it, and the fact the
    credit signal needs. -/
def freed (n : ℕ) (x b : Fin 2) : sProp 𝕄 :=
  iprop(hole (F := F) (dst (oth b) c) x b (n + 1) ∗ reached ER (cel (dst (oth b) c) (.crd b)) n)

theorem hole_intro (n : ℕ) (x b : Fin 2) (X : S2048x512.Idx → Elt F .bf16) :
    iprop(holds c x (slotOf n) b fullShare X ∗ reached ER (cel c (.rcv (slotOf n) x b)) ((n + 1) / 2))
      ⊢ (hole (dst (oth b) c) x b (n + 1) : sProp 𝕄) := by
  unfold hole
  rw [dst_oth_dst, slotOf_succ, oth_oth]
  iintro ⟨H, Hr⟩
  isplitl [H]; · iexists X; iexact H
  iexact Hr

variable {A K c}

theorem lane_send {n : ℕ} (hn : n < 15) (x b : Fin 2) (O : CellTallies nD τ sig ℕ) (Q : PUnit → sProp 𝕄) :
    iprop(ctx A K ∗ lane A c n x b ∗ hole c x b n ∗ reached ER (cel c (.crd b)) n ∗ hopTok c n x b ∗ owed c (O + oweHop c n x b)
        ∗ ((flight c n x b ∗ kept A c n x b ∗ owed c O) -∗ Q ⟨⟩))
      ⊢ run c (send c (slotOf n) x b) Q := by
  unfold lane stands hopTok flight kept stands
  iintro ⟨#Hc, ⟨⟨Ha, Hb, Hd, He, #Hr1, #Hr2, #Hr3⟩, Hh⟩, Hhole, #Hcr, ⟨Ht, Ht', Hcv⟩, HO, HQ⟩
  ihave Hh' := (owns_halves (c : Thread nD τ) (halfM x (slotOf n) b) fullShare (chunk A x b c n)).1 $$ Hh
  icases Hh' with ⟨Hl, Hk⟩
  iapply (run_send A K c hn x b O Q)
  isplitr; · iexact Hc
  isplitl [Hl]; · iexact Hl
  isplitl [Hhole]; · iexact Hhole
  isplitr; · iexact Hcr
  isplitl [Ht]; · iexact Ht
  isplitr; · iexact Hr1
  isplitl [Ht']; · iexact Ht'
  isplitl [HO]; · iexact HO
  iintro ⟨Hcs, HO⟩
  iapply HQ
  isplitl [Ha Hb Hd He Hcs Hcv]
  · isplitl [Ha Hb Hd He]
    · isplitl [Ha]; · iexact Ha
      isplitl [Hb]; · iexact Hb
      isplitl [Hd]; · iexact Hd
      isplitl [He]; · iexact He
      isplitr; · iexact Hr1
      isplitr; · iexact Hr2
      iexact Hr3
    isplitl [Hcs]; · iexact Hcs
    iexact Hcv
  isplitl [Hk]; · iexact Hk
  iexact HO

theorem lane_waitSend {n : ℕ} (hn : n < 15) (x b : Fin 2) (O : CellTallies nD τ sig ℕ) (hO : Above (3 * n + 4) O) (Q : PUnit → sProp 𝕄) :
    iprop(ctx A K ∗ flight c n x b ∗ kept A c n x b ∗ owed c O ∗ ((flight' A c n x b ∗ owed c O) -∗ Q ⟨⟩))
      ⊢ run c (waitSend (slotOf n) x b) Q := by
  unfold flight flight' kept stands
  iintro ⟨#Hc, ⟨⟨Ha, Hb, Hd, He, #Hr1, #Hr2, #Hr3⟩, Hcs, Hcv⟩, Hk, HO, HQ⟩
  iapply (run_waitSend A K c hn x b O (hO.mono (by omega)) Q)
  isplitr; · iexact Hc
  isplitl [Hcs]; · iexact Hcs
  isplitl [HO]; · iexact HO
  isplitl [Ha]; · iexact Ha
  iintro ⟨HO, Ha, #Hr1', Hl⟩
  ihave Hh := (owns_halves (c : Thread nD τ) (halfM x (slotOf n) b) fullShare (chunk A x b c n)).2 $$ [Hl Hk]
  · isplitl [Hl]; · iexact Hl
    iexact Hk
  iapply HQ
  isplitl [Ha Hb Hd He Hcv Hh]
  · isplitl [Ha]; · iexact Ha
    isplitl [Hb]; · iexact Hb
    isplitl [Hd]; · iexact Hd
    isplitl [He]; · iexact He
    isplitr; · iexact Hr1'
    isplitr; · iexact Hr2
    isplitr; · iexact Hr3
    isplitl [Hcv]; · iexact Hcv
    iexact Hh
  iexact HO

theorem lane_waitRecv {n : ℕ} (hn : n < 15) (x b : Fin 2) (O : CellTallies nD τ sig ℕ) (hO : Above (3 * n + 4) O) (Q : PUnit → sProp 𝕄) :
    iprop(ctx A K ∗ flight' A c n x b ∗ owed c O ∗ ((lane A c (n + 1) x b ∗ freed c n x b ∗ owed c O) -∗ Q ⟨⟩))
      ⊢ run c (waitRecv (slotOf n) x b) Q := by
  unfold flight' freed lane stands
  rw [slotOf_succ n, oth_oth, show (n + 1 + 1) / 2 = n / 2 + 1 by omega]
  iintro ⟨#Hc, ⟨Ha, Hb, Hd, He, #Hr1, #Hr2, #Hr3, Hcv, Hh⟩, HO, HQ⟩
  iapply (run_waitRecv A K c hn x b O hO Q)
  isplitr; · iexact Hc
  isplitl [Hcv]; · iexact Hcv
  isplitl [HO]; · iexact HO
  isplitl [Hd]; · iexact Hd
  unfold landed
  iintro ⟨HO, Hd, #Hr4, ⟨Hn, #Hcr⟩⟩
  iapply HQ
  isplitl [Ha Hb Hd He Hn]
  · isplitl [Ha Hb Hd He]
    · isplitl [Hb]; · iexact Hb
      isplitl [Ha]; · iexact Ha
      isplitl [He]; · iexact He
      isplitl [Hd]; · iexact Hd
      isplitr; · iexact Hr2
      isplitr; · iexact Hr1
      iexact Hr4
    iexact Hn
  isplitl [Hh]
  · isplitl [Hh]
    · iapply (hole_intro c n x b (chunk A x b c n))
      isplitl [Hh]; · iexact Hh
      iexact Hr3
    iexact Hcr
  iexact HO

/-! ## A hop -/

variable (A K c)

/-- A statement for each buffer and direction. -/
def four (P : Fin 2 → Fin 2 → sProp 𝕄) : sProp 𝕄 := iprop(P 0 0 ∗ P 0 1 ∗ P 1 0 ∗ P 1 1)

/-- The free halves and the facts a hop's transfers need. -/
def room (n : ℕ) : sProp 𝕄 := iprop((offer c 0 n ∗ offer (F := F) c 1 n) ∗ reached ER (cel c (.crd 0)) n ∗ reached ER (cel c (.crd 1)) n)

/-- The kept shares of the slot are the whole of its keys and of its values, at half the share, -/
theorem slabs_of_kept (n : ℕ) :
    four (kept A c n) ⊢ iprop(slab c fullShare.right 0 (slotOf n) (blockAt A 0 c n) ∗ slab c fullShare.right 1 (slotOf n) (blockAt A 1 c n)) := by
  unfold four kept
  iintro ⟨H00, H01, H10, H11⟩
  isplitl [H00 H01]
  · iapply (slab_of_halves c fullShare.right 0 (slotOf n) (blockAt A 0 c n))
    rw [half_blockAt, half_blockAt]
    isplitl [H00]; · iexact H00
    iexact H01
  · iapply (slab_of_halves c fullShare.right 1 (slotOf n) (blockAt A 1 c n))
    rw [half_blockAt, half_blockAt]
    isplitl [H10]; · iexact H10
    iexact H11
/-- and back. -/
theorem kept_of_slabs (n : ℕ) :
    iprop(slab c fullShare.right 0 (slotOf n) (blockAt A 0 c n) ∗ slab c fullShare.right 1 (slotOf n) (blockAt A 1 c n)) ⊢ four (kept A c n) := by
  have h (x : Fin 2) := halves_of_slab c fullShare.right x (slotOf n) (blockAt A x c n)
  simp only [half_blockAt] at h
  unfold four kept
  iintro ⟨H0, H1⟩
  ihave H0 := (h 0) $$ H0
  ihave H1 := (h 1) $$ H1
  icases H0 with ⟨H00, H01⟩
  icases H1 with ⟨H10, H11⟩
  isplitl [H00]; · iexact H00
  isplitl [H01]; · iexact H01
  isplitl [H10]; · iexact H10
  iexact H11

theorem run_sends {n : ℕ} (hn : n < 15) (O : CellTallies nD τ sig ℕ) (Q : PUnit → sProp 𝕄) :
    iprop(ctx A K ∗ four (lane A c n) ∗ room c n ∗ four (hopTok c n)
        ∗ owed c (O + oweHop c n 1 1 + oweHop c n 1 0 + oweHop c n 0 1 + oweHop c n 0 0)
        ∗ ((four (flight c n) ∗ four (kept A c n) ∗ owed c O) -∗ Q ⟨⟩))
      ⊢ run c (sends c (slotOf n)) Q := by
  unfold sends four room offer
  iintro ⟨#Hc, ⟨L00, L01, L10, L11⟩, ⟨⟨⟨h00, h10⟩, ⟨h01, h11⟩⟩, #Hr0, #Hr1⟩, ⟨T00, T01, T10, T11⟩, HO, HQ⟩
  rw [run_bind]
  iapply (lane_send hn 0 0 (O + oweHop c n 1 1 + oweHop c n 1 0 + oweHop c n 0 1) _)
  isplitr; · iexact Hc
  isplitl [L00]; · iexact L00
  isplitl [h00]; · iexact h00
  isplitr; · iexact Hr0
  isplitl [T00]; · iexact T00
  isplitl [HO]; · iexact HO
  iintro ⟨F00, K00, HO⟩
  rw [run_bind]
  iapply (lane_send hn 0 1 (O + oweHop c n 1 1 + oweHop c n 1 0) _)
  isplitr; · iexact Hc
  isplitl [L01]; · iexact L01
  isplitl [h01]; · iexact h01
  isplitr; · iexact Hr1
  isplitl [T01]; · iexact T01
  isplitl [HO]; · iexact HO
  iintro ⟨F01, K01, HO⟩
  rw [run_bind]
  iapply (lane_send hn 1 0 (O + oweHop c n 1 1) _)
  isplitr; · iexact Hc
  isplitl [L10]; · iexact L10
  isplitl [h10]; · iexact h10
  isplitr; · iexact Hr0
  isplitl [T10]; · iexact T10
  isplitl [HO]; · iexact HO
  iintro ⟨F10, K10, HO⟩
  iapply (lane_send hn 1 1 O _)
  isplitr; · iexact Hc
  isplitl [L11]; · iexact L11
  isplitl [h11]; · iexact h11
  isplitr; · iexact Hr1
  isplitl [T11]; · iexact T11
  isplitl [HO]; · iexact HO
  iintro ⟨F11, K11, HO⟩
  iapply HQ
  isplitl [F00 F01 F10 F11]
  · isplitl [F00]; · iexact F00
    isplitl [F01]; · iexact F01
    isplitl [F10]; · iexact F10
    iexact F11
  isplitl [K00 K01 K10 K11]
  · isplitl [K00]; · iexact K00
    isplitl [K01]; · iexact K01
    isplitl [K10]; · iexact K10
    iexact K11
  iexact HO

/-- The two waits of one buffer and direction, with the rest of the program after them. -/
theorem run_wait2 {n : ℕ} (hn : n < 15) (x b : Fin 2) (O : CellTallies nD τ sig ℕ) (hO : Above (3 * n + 4) O) {p : PG F PUnit}
    (Q : PUnit → sProp 𝕄) :
    iprop(ctx A K ∗ flight c n x b ∗ kept A c n x b ∗ owed c O
        ∗ ((lane A c (n + 1) x b ∗ freed c n x b ∗ owed c O) -∗ run c p Q))
      ⊢ run c (waitSend (slotOf n) x b >>= fun _ => waitRecv (slotOf n) x b >>= fun _ => p) Q := by
  iintro ⟨#Hc, Hf, Hk, HO, HQ⟩
  rw [run_bind]
  iapply (lane_waitSend hn x b O hO _)
  isplitr; · iexact Hc
  isplitl [Hf]; · iexact Hf
  isplitl [Hk]; · iexact Hk
  isplitl [HO]; · iexact HO
  iintro ⟨Hf, HO⟩
  rw [run_bind]
  iapply (lane_waitRecv hn x b O hO _)
  isplitr; · iexact Hc
  isplitl [Hf]; · iexact Hf
  isplitl [HO]; · iexact HO
  iexact HQ

theorem run_waits {n : ℕ} (hn : n < 15) (O : CellTallies nD τ sig ℕ) (hO : Above (3 * n + 4) O) (Q : PUnit → sProp 𝕄) :
    iprop(ctx A K ∗ four (flight c n) ∗ four (kept A c n) ∗ owed c O
        ∗ ((four (lane A c (n + 1)) ∗ four (freed c n) ∗ owed c O) -∗ Q ⟨⟩))
      ⊢ run c (waits (slotOf n)) Q := by
  have he : waits (F := F) (slotOf n) = (do
      waitSend (slotOf n) 0 0
      waitRecv (slotOf n) 0 0
      waitSend (slotOf n) 0 1
      waitRecv (slotOf n) 0 1
      waitSend (slotOf n) 1 0
      waitRecv (slotOf n) 1 0
      waitSend (slotOf n) 1 1
      waitRecv (slotOf n) 1 1
      pure ⟨⟩) := by simp only [waits, bind_pure_unit]
  rw [he]
  unfold four
  iintro ⟨#Hc, ⟨F00, F01, F10, F11⟩, ⟨K00, K01, K10, K11⟩, HO, HQ⟩
  iapply (run_wait2 A K c hn 0 0 O hO _)
  isplitr; · iexact Hc
  isplitl [F00]; · iexact F00
  isplitl [K00]; · iexact K00
  isplitl [HO]; · iexact HO
  iintro ⟨L00, R00, HO⟩
  iapply (run_wait2 A K c hn 0 1 O hO _)
  isplitr; · iexact Hc
  isplitl [F01]; · iexact F01
  isplitl [K01]; · iexact K01
  isplitl [HO]; · iexact HO
  iintro ⟨L01, R01, HO⟩
  iapply (run_wait2 A K c hn 1 0 O hO _)
  isplitr; · iexact Hc
  isplitl [F10]; · iexact F10
  isplitl [K10]; · iexact K10
  isplitl [HO]; · iexact HO
  iintro ⟨L10, R10, HO⟩
  iapply (run_wait2 A K c hn 1 1 O hO _)
  isplitr; · iexact Hc
  isplitl [F11]; · iexact F11
  isplitl [K11]; · iexact K11
  isplitl [HO]; · iexact HO
  iintro ⟨L11, R11, HO⟩
  rw [show (pure PUnit.unit : PG F PUnit) = .ret PUnit.unit from rfl, run, wp_ret]; imodintro
  iapply HQ
  isplitl [L00 L01 L10 L11]
  · isplitl [L00]; · iexact L00
    isplitl [L01]; · iexact L01
    isplitl [L10]; · iexact L10
    iexact L11
  isplitl [R00 R01 R10 R11]
  · isplitl [R00]; · iexact R00
    isplitl [R01]; · iexact R01
    isplitl [R10]; · iexact R10
    iexact R11
  iexact HO

/-- One hop: the block goes on, the running values take it in. -/
theorem run_hop {n : ℕ} (hn : n < 15) (O : CellTallies nD τ sig ℕ) (hO : Above (3 * n + 4) O) (Q : PUnit → sProp 𝕄) :
    iprop(ctx A K ∗ four (lane A c n) ∗ room c n ∗ four (hopTok c n) ∗ queries c q ∗ cols c (stAt A q c n)
        ∗ owed c (O + oweHop c n 1 1 + oweHop c n 1 0 + oweHop c n 0 1 + oweHop c n 0 0)
        ∗ ((four (lane A c (n + 1)) ∗ four (freed c n) ∗ queries c q ∗ cols c (stAt A q c (n + 1)) ∗ owed c O) -∗ Q ⟨⟩))
      ⊢ run c (hop c (slotOf n)) Q := by
  unfold hop
  iintro ⟨#Hc, HL, Hroom, HT, Hq, HS, HO, HQ⟩
  rw [run_bind]
  iapply (run_sends A K c hn O _)
  isplitr; · iexact Hc
  isplitl [HL]; · iexact HL
  isplitl [Hroom]; · iexact Hroom
  isplitl [HT]; · iexact HT
  isplitl [HO]; · iexact HO
  iintro ⟨HF, HK, HO⟩
  ihave HK := (slabs_of_kept A c n) $$ HK
  icases HK with ⟨H0, H1⟩
  rw [run_bind]
  iapply (run_update c fullShare.right (slotOf n) q (blockAt A 0 c n) (blockAt A 1 c n) (stAt A q c n) _)
  isplitl [Hq]; · iexact Hq
  isplitl [H0]; · iexact H0
  isplitl [H1]; · iexact H1
  isplitl [HS]; · iexact HS
  iintro ⟨Hq, H0, H1, HS⟩
  ihave HK := (kept_of_slabs A c n) $$ [H0 H1]
  · isplitl [H0]; · iexact H0
    iexact H1
  iapply (run_waits A K c hn O hO _)
  isplitr; · iexact Hc
  isplitl [HF]; · iexact HF
  isplitl [HK]; · iexact HK
  isplitl [HO]; · iexact HO
  iintro ⟨HL, HR, HO⟩
  iapply HQ
  isplitl [HL]; · iexact HL
  isplitl [HR]; · iexact HR
  isplitl [Hq]; · iexact Hq
  isplitl [HS]; · iexact HS
  iexact HO

/-! ## The hand-over -/

/-- What the hand-over after hop `n` uses of direction `b`. -/
def handTok (n : ℕ) (b : Fin 2) : sProp 𝕄 :=
  iprop(dutyTok ER (cel (dst (oth b) c) (.crd b)) n 0 ∗ cred (tallyAt (cel c (.crd b)) n 1))

/-- The two freed halves of direction `b` are what the neighbour is offered. -/
theorem offer_of_freed (n : ℕ) (b : Fin 2) :
    iprop(freed (F := F) c n 0 b ∗ freed c n 1 b) ⊢ iprop(offer (dst (oth b) c) b (n + 1) ∗ reached ER (cel (dst (oth b) c) (.crd b)) n) := by
  unfold freed offer
  iintro ⟨⟨H0, Hr⟩, ⟨H1, -⟩⟩
  isplitl [H0 H1]
  · isplitl [H0]; · iexact H0
    iexact H1
  iexact Hr

theorem run_handover {n : ℕ} (hn : n < 14) (O : CellTallies nD τ sig ℕ) (hO : Above (3 * n + 5) O) (Q : PUnit → sProp 𝕄) :
    iprop(ctx A K ∗ four (freed c n) ∗ (handTok c n 0 ∗ handTok c n 1)
        ∗ (atPos ER (cel c (.crd 0)) n ∅ 0 ∗ atPos ER (cel c (.crd 1)) n ∅ 0) ∗ owed c (O + oweCrd c n 1 + oweCrd c n 0)
        ∗ ((room c (n + 1) ∗ (atPos ER (cel c (.crd 0)) (n + 1) ∅ 0 ∗ atPos ER (cel c (.crd 1)) (n + 1) ∅ 0) ∗ owed c O) -∗ Q ⟨⟩))
      ⊢ run c (handover c) Q := by
  unfold handover four room handTok
  iintro ⟨#Hc, ⟨R00, R01, R10, R11⟩, ⟨⟨T0, C0⟩, ⟨T1, C1⟩⟩, ⟨P0, P1⟩, HO, HQ⟩
  ihave H0 := (offer_of_freed c n 0) $$ [R00 R10]
  · isplitl [R00]; · iexact R00
    iexact R10
  ihave H1 := (offer_of_freed c n 1) $$ [R01 R11]
  · isplitl [R01]; · iexact R01
    iexact R11
  icases H0 with ⟨H0, #Hr0⟩
  icases H1 with ⟨H1, #Hr1⟩
  rw [run_bind]
  iapply (run_signal A K c hn 0 (O + oweCrd c n 1) _)
  isplitr; · iexact Hc
  isplitl [H0]; · iexact H0
  isplitr; · iexact Hr0
  isplitl [T0]; · iexact T0
  isplitl [HO]; · iexact HO
  iintro HO
  rw [run_bind]
  iapply (run_signal A K c hn 1 O _)
  isplitr; · iexact Hc
  isplitl [H1]; · iexact H1
  isplitr; · iexact Hr1
  isplitl [T1]; · iexact T1
  isplitl [HO]; · iexact HO
  iintro HO
  rw [run_bind]
  iapply (run_credit A K c hn 0 O hO _)
  isplitr; · iexact Hc
  isplitl [C0]; · iexact C0
  isplitl [HO]; · iexact HO
  isplitl [P0]; · iexact P0
  iintro ⟨HO, P0, #Hq0, H0⟩
  iapply (run_credit A K c hn 1 O hO _)
  isplitr; · iexact Hc
  isplitl [C1]; · iexact C1
  isplitl [HO]; · iexact HO
  isplitl [P1]; · iexact P1
  iintro ⟨HO, P1, #Hq1, H1⟩
  iapply HQ
  isplitl [H0 H1]
  · isplitl [H0 H1]
    · isplitl [H0]; · iexact H0
      iexact H1
    isplitr; · iexact Hq0
    iexact Hq1
  isplitl [P0 P1]
  · isplitl [P0]; · iexact P0
    iexact P1
  iexact HO

/-! ## The rounds -/

/-- What device `c` holds before hop `n`. -/
def before (n : ℕ) : sProp 𝕄 :=
  iprop(four (lane A c n) ∗ room c n ∗ (atPos ER (cel c (.crd 0)) n ∅ 0 ∗ atPos ER (cel c (.crd 1)) n ∅ 0)
    ∗ queries c q ∗ cols c (stAt A q c n) ∗ owed c (oweFrom c n))

/-- The tokens of round `n`. -/
def roundTok (n : ℕ) : sProp 𝕄 := iprop(four (hopTok (F := F) c n) ∗ (handTok c n 0 ∗ handTok c n 1))

theorem run_round {n : ℕ} (hn : n < 14) (Q : PUnit → sProp 𝕄) :
    iprop(ctx A K ∗ before A q c n ∗ roundTok c n ∗ (before A q c (n + 1) -∗ Q ⟨⟩))
      ⊢ run c (hop c (slotOf n) >>= fun _ => handover c) Q := by
  unfold before roundTok
  rw [oweFrom_step c (show n < 15 by omega), show oweHand c n = oweCrd c n 1 + oweCrd c n 0 from if_pos hn, ← add_assoc]
  iintro ⟨#Hc, ⟨HL, Hroom, HP, Hq, HS, HO⟩, ⟨HT, HH⟩, HQ⟩
  rw [run_bind]
  iapply (run_hop A K q c (show n < 15 by omega) (oweFrom c (n + 1) + oweCrd c n 1 + oweCrd c n 0)
    (by
      have h := (above_hand c n)
      rw [show oweHand c n = oweCrd c n 1 + oweCrd c n 0 from if_pos hn] at h
      rw [add_assoc]
      exact ((above_from c (n + 1)).mono (by omega)).add h) _)
  isplitr; · iexact Hc
  isplitl [HL]; · iexact HL
  isplitl [Hroom]; · iexact Hroom
  isplitl [HT]; · iexact HT
  isplitl [Hq]; · iexact Hq
  isplitl [HS]; · iexact HS
  isplitl [HO]; · iexact HO
  iintro ⟨HL, HR, Hq, HS, HO⟩
  iapply (run_handover A K c hn (oweFrom c (n + 1)) ((above_from c (n + 1)).mono (by omega)) _)
  isplitr; · iexact Hc
  isplitl [HR]; · iexact HR
  isplitl [HH]; · iexact HH
  isplitl [HP]; · iexact HP
  isplitl [HO]; · iexact HO
  iintro ⟨Hroom, HP, HO⟩
  iapply HQ
  isplitl [HL]; · iexact HL
  isplitl [Hroom]; · iexact Hroom
  isplitl [HP]; · iexact HP
  isplitl [Hq]; · iexact Hq
  isplitl [HS]; · iexact HS
  iexact HO

/-- The first `n` rounds. -/
theorem run_rounds (n : ℕ) (hn : n ≤ 14) (Q : PUnit → sProp 𝕄) :
    iprop(ctx A K ∗ before A q c 0 ∗ bigSep (Finset.range n) (roundTok c) ∗ (before A q c n -∗ Q ⟨⟩))
      ⊢ run c (rounds c n) Q := by
  induction n generalizing Q with
  | zero =>
    iintro ⟨-, Hb, -, HQ⟩
    rw [show rounds (F := F) c 0 = .ret PUnit.unit from rfl, run, wp_ret]; imodintro
    iapply HQ; iexact Hb
  | succ n ih =>
    rw [Finset.range_add_one, bigSep_insert Finset.notMem_range_self]
    rw [show rounds (F := F) c (n + 1) = (rounds c n >>= fun _ => hop c (slotOf n) >>= fun _ => handover c) from rfl, run_bind]
    iintro ⟨#Hc, Hb, HTT, HQ⟩
    ihave HTT' := (show BI.sep (roundTok (F := F) c n) (bigSep (Finset.range n) (roundTok c)) ⊢ iprop(roundTok c n ∗ bigSep (Finset.range n) (roundTok c)) from .rfl) $$ HTT
    icases HTT' with ⟨HT, HTs⟩
    iapply (ih (by omega) _)
    isplitr; · iexact Hc
    isplitl [Hb]; · iexact Hb
    isplitl [HTs]; · iexact HTs
    iintro Hb
    iapply (run_round A K q c (show n < 14 by omega) _)
    isplitr; · iexact Hc
    isplitl [Hb]; · iexact Hb
    isplitl [HT]; · iexact HT
    iexact HQ

end Cert.KernelIdeal.Ring
end
-- ==== Proof.KI.Whole.lean ====
/-
# The whole body

From what the launch gives a device to the result block and every semaphore at zero.
-/
module

public import proofs.«01_k».proof.Proof.KI.Rounds

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (A : Blocks F) (K : Dev nD × CK → ℕ) (q : S4096x512.Idx → Elt F .bf16) (c : Dev nD)

/-! ## The cells of a device, one by one -/

/-- The four cells of buffer `x`, direction `b`. -/
def quad (P : CK → sProp 𝕄) (x b : Fin 2) : sProp 𝕄 := iprop(P (.snd 0 x b) ∗ P (.snd 1 x b) ∗ P (.rcv 0 x b) ∗ P (.rcv 1 x b))

theorem cells_eq (P : CK → sProp 𝕄) : bigSep Finset.univ P =
    iprop(P .bar ∗ P (.crd 0) ∗ P (.crd 1) ∗ P (.snd 0 0 0) ∗ P (.snd 1 0 0) ∗ P (.rcv 0 0 0) ∗ P (.rcv 1 0 0)
      ∗ P (.snd 0 0 1) ∗ P (.snd 1 0 1) ∗ P (.rcv 0 0 1) ∗ P (.rcv 1 0 1)
      ∗ P (.snd 0 1 0) ∗ P (.snd 1 1 0) ∗ P (.rcv 0 1 0) ∗ P (.rcv 1 1 0)
      ∗ P (.snd 0 1 1) ∗ P (.snd 1 1 1) ∗ P (.rcv 0 1 1) ∗ P (.rcv 1 1 1)) :=
  bigSep_univ_eq_bigSepL ckAll (Finset.ext fun k => by simp [mem_ckAll]) nodup_ckAll P

theorem cells_split (P : CK → sProp 𝕄) : bigSep Finset.univ P ⊢ iprop(P .bar ∗ (P (.crd 0) ∗ P (.crd 1)) ∗ four (quad P)) := by
  rw [cells_eq]; unfold four quad
  iintro ⟨Hb, H0, H1, A0, A1, A2, A3, B0, B1, B2, B3, C0, C1, C2, C3, D0, D1, D2, D3⟩
  isplitl [Hb]; · iexact Hb
  isplitl [H0 H1]; · isplitl [H0] <;> iassumption
  isplitl [A0 A1 A2 A3]
  · isplitl [A0]; · iexact A0
    isplitl [A1]; · iexact A1
    isplitl [A2] <;> iassumption
  isplitl [B0 B1 B2 B3]
  · isplitl [B0]; · iexact B0
    isplitl [B1]; · iexact B1
    isplitl [B2] <;> iassumption
  isplitl [C0 C1 C2 C3]
  · isplitl [C0]; · iexact C0
    isplitl [C1]; · iexact C1
    isplitl [C2] <;> iassumption
  isplitl [D0]; · iexact D0
  isplitl [D1]; · iexact D1
  isplitl [D2] <;> iassumption

theorem cells_join (P : CK → sProp 𝕄) : iprop(P .bar ∗ (P (.crd 0) ∗ P (.crd 1)) ∗ four (quad P)) ⊢ bigSep Finset.univ P := by
  rw [cells_eq]; unfold four quad
  iintro ⟨Hb, ⟨H0, H1⟩, ⟨A0, A1, A2, A3⟩, ⟨B0, B1, B2, B3⟩, ⟨C0, C1, C2, C3⟩, ⟨D0, D1, D2, D3⟩⟩
  isplitl [Hb]; · iexact Hb
  isplitl [H0]; · iexact H0
  isplitl [H1]; · iexact H1
  isplitl [A0]; · iexact A0
  isplitl [A1]; · iexact A1
  isplitl [A2]; · iexact A2
  isplitl [A3]; · iexact A3
  isplitl [B0]; · iexact B0
  isplitl [B1]; · iexact B1
  isplitl [B2]; · iexact B2
  isplitl [B3]; · iexact B3
  isplitl [C0]; · iexact C0
  isplitl [C1]; · iexact C1
  isplitl [C2]; · iexact C2
  isplitl [C3]; · iexact C3
  isplitl [D0]; · iexact D0
  isplitl [D1]; · iexact D1
  isplitl [D2] <;> iassumption

/-- Two statements for each buffer and direction, side by side. -/
theorem four_sep (P R : Fin 2 → Fin 2 → sProp 𝕄) : iprop(four P ∗ four R) ⊢ four fun x b => iprop(P x b ∗ R x b) := by
  unfold four
  iintro ⟨⟨A0, A1, A2, A3⟩, ⟨B0, B1, B2, B3⟩⟩
  isplitl [A0 B0]; · isplitl [A0] <;> iassumption
  isplitl [A1 B1]; · isplitl [A1] <;> iassumption
  isplitl [A2 B2]; · isplitl [A2] <;> iassumption
  isplitl [A3] <;> iassumption
theorem four_unsep (P R : Fin 2 → Fin 2 → sProp 𝕄) : (four fun x b => iprop(P x b ∗ R x b)) ⊢ iprop(four P ∗ four R) := by
  unfold four
  iintro ⟨⟨A0, B0⟩, ⟨A1, B1⟩, ⟨A2, B2⟩, ⟨A3, B3⟩⟩
  isplitl [A0 A1 A2 A3]
  · isplitl [A0]; · iexact A0
    isplitl [A1]; · iexact A1
    isplitl [A2] <;> iassumption
  isplitl [B0]; · iexact B0
  isplitl [B1]; · iexact B1
  isplitl [B2] <;> iassumption
theorem four_mono {P R : Fin 2 → Fin 2 → sProp 𝕄} (h : ∀ x b, P x b ⊢ R x b) : four P ⊢ four R :=
  BI.sep_mono (h 0 0) (BI.sep_mono (h 0 1) (BI.sep_mono (h 1 0) (h 1 1)))
theorem four_mono_with {C : sProp 𝕄} [BI.Persistent C] {P R : Fin 2 → Fin 2 → sProp 𝕄} (h : ∀ x b, iprop(C ∗ P x b) ⊢ R x b) :
    iprop(C ∗ four P) ⊢ four R := by
  unfold four
  iintro ⟨#HC, A0, A1, A2, A3⟩
  isplitl [A0]
  · iapply (h 0 0); isplitr; · iexact HC
    iexact A0
  isplitl [A1]
  · iapply (h 0 1); isplitr; · iexact HC
    iexact A1
  isplitl [A2]
  · iapply (h 1 0); isplitr; · iexact HC
    iexact A2
  · iapply (h 1 1); isplitr; · iexact HC
    iexact A3

/-- A cell standing at a round. -/
abbrev at_ (r : CK → ℕ) (k : CK) : sProp 𝕄 := atPos ER (cel c k) (r k) ∅ 0

/-! ## Entering and leaving the lanes -/

theorem lane_start (x b : Fin 2) :
    iprop(ctx A K ∗ (quad (at_ (F := F) c fun _ => 0) x b ∗ holds c x 0 b fullShare (chunk A x b c 0))) ⊢ lane A c 0 x b := by
  unfold quad lane stands
  iintro ⟨#Hc, ⟨H0, H1, H2, H3⟩, Hh⟩
  isplitl [H0 H1 H2 H3]
  · isplitl [H0]; · iexact H0
    isplitl [H1]; · iexact H1
    isplitl [H3]; · iexact H3
    isplitl [H2]; · iexact H2
    isplitr; · iapply (ctx_reached A K c (.snd 0 x b)); iexact Hc
    isplitr; · iapply (ctx_reached A K c (.snd 1 x b)); iexact Hc
    iapply (ctx_reached A K c (.rcv 0 x b)); iexact Hc
  iexact Hh

/-- The cells at the end of a lane have gone through all their rounds. -/
theorem lane_end (x b : Fin 2) :
    lane A c 15 x b ⊢ iprop(quad (at_ (F := F) c last) x b ∗ holds c x 1 b fullShare (chunk A x b c 15)) := by
  unfold quad lane stands
  iintro ⟨⟨H1, H0, H2, H3, -, -, -⟩, Hh⟩
  isplitl [H0 H1 H2 H3]
  · isplitl [H0]; · iexact H0
    isplitl [H1]; · iexact H1
    isplitl [H2]; · iexact H2
    iexact H3
  iexact Hh

/-- The half freed by the last hop is the device's own again. -/
theorem freed_end (x b : Fin 2) : freed (F := F) c 14 x b ⊢ iprop(∃ X, holds (F := F) c x 0 b fullShare X) := by
  unfold freed hole
  rw [dst_oth_dst]
  iintro ⟨⟨H, -⟩, -⟩
  iexact H

/-- The free half of slot `1`, offered at the barrier. -/
theorem hole_intro₀ (x b : Fin 2) (X : S2048x512.Idx → Elt F .bf16) :
    iprop(ctx A K ∗ holds c x 1 b fullShare X) ⊢ (hole (dst (oth b) c) x b 0 : sProp 𝕄) := by
  unfold hole
  rw [dst_oth_dst]
  iintro ⟨#Hc, H⟩
  isplitl [H]; · iexists X; iexact H
  iapply (ctx_reached A K c (.rcv 1 x b)); iexact Hc

/-! ## Closing the cells -/

theorem close_one (k : CK) :
    iprop(cellInv ER (Rd A) (K (c, k)) (cel c k) ∗ at_ (F := F) c last k) ⊢ |={Set.univ}=> (semVal (cel c k) 0 : sProp 𝕄) := by
  iintro ⟨#HI, Hat⟩
  imod (Rounds.cell_close ER (Rd A) (Set.mem_univ (K (c, k))) (fun h => h) (R := last k) (fun r hr => duties_past A c k r hr)) $$ [Hat] with Hz
  · isplitr; · iexact HI
    iexact Hat
  imodintro; iexact Hz

theorem close_all :
    iprop(ctx A K ∗ bigSep Finset.univ (at_ (F := F) c last)) ⊢ |={Set.univ}=> bigSep Finset.univ fun k : CK => (semVal (cel c k) 0 : sProp 𝕄) := by
  refine .trans ?_ (bigSep_fupd _ _)
  refine (sep_mono_left (BI.bigSep_of_persistent (Finset.univ : Finset CK) (ctx A K))).trans ?_
  rw [← bigSep_sep']
  refine bigSep_mono fun k _ => .trans (show iprop(ctx A K ∗ at_ (F := F) c last k) ⊢ iprop(cellInv ER (Rd A) (K (c, k)) (cel c k) ∗ at_ c last k) from ?_)
    (close_one A K c k)
  iintro ⟨Hc, Hat⟩
  isplitl [Hc]; · iapply (ctx_inv A K c k); iexact Hc
  iexact Hat

/-! ## The prologue -/

theorem hz : (![0, 0] : Fin 2 → ℕ) = fun _ => 0 := funext fun a => by fin_cases a <;> rfl

/-- The rectangles of a whole block and of a whole column. -/
abbrev wide : Rect S4096x512 := Rect.unit (s := S4096x512) ![0, 0] ![4096, 512] inb_S4096x512_S4096x512_0_0
abbrev thin : Rect S4096x1 := Rect.unit (s := S4096x1) ![0, 0] ![4096, 1] inb_S4096x1_S4096x1_0_0

theorem read_k (f : S4096x512.Idx → Elt F .bf16) : kM.view.readAt (Elt F) wide.toLoadRect f = f := Memref.readAt_unit_zero (Elt F) cc0_stg1_0 hz _ f
theorem read_v (f : S4096x512.Idx → Elt F .bf16) : vM.view.readAt (Elt F) wide.toLoadRect f = f := Memref.readAt_unit_zero (Elt F) cc0_stg2_0 hz _ f
theorem read_acc (f : S4096x512.Idx → Elt F .f32) : accM.view.readAt (Elt F) wide.toLoadRect f = f := Memref.readAt_unit_zero (Elt F) cc0_scratch2 hz _ f
theorem read_l (f : S4096x1.Idx → Elt F .f32) : lM.view.readAt (Elt F) thin.toLoadRect f = f := Memref.readAt_unit_zero (Elt F) cc0_scratch4 hz _ f
theorem write_m (f w : S4096x1.Idx → Elt F .f32) : (mM.access thin).write (Elt F) f w Finset.univ = w :=
  Memref.write_access_unit_zero_univ (Elt F) cc0_scratch3 hz _ f w
theorem write_l (f w : S4096x1.Idx → Elt F .f32) : (lM.access thin).write (Elt F) f w Finset.univ = w :=
  Memref.write_access_unit_zero_univ (Elt F) cc0_scratch4 hz _ f w
theorem write_acc (f w : S4096x512.Idx → Elt F .f32) : (accM.access wide).write (Elt F) f w Finset.univ = w :=
  Memref.write_access_unit_zero_univ (Elt F) cc0_scratch2 hz _ f w
theorem write_o (f w : S4096x512.Idx → Elt F .f32) : (oM.access wide).write (Elt F) f w Finset.univ = w :=
  Memref.write_access_unit_zero_univ (Elt F) cc0_stg3_0 hz _ f w

theorem pay100_eq (k : S4096x512.Idx → Elt F .bf16) : k0_pay100 k = slotted k := by
  funext j
  obtain ⟨z, p, e, rfl⟩ : ∃ (z : Fin 1) (p : Fin 4096) (e : Fin 512), j = ix3 z p e := ⟨j 0, j 1, j 2, eq_ix3 j⟩
  unfold k0_pay100
  simp only [shapeCast_self]
  exact shapeCast_ab_1ab_apply _ _ _ _ _
theorem pay101_eq (k : S4096x512.Idx → Elt F .bf16) : k0_pay101 k = slotted k := pay100_eq k

/-- A staged block or a working buffer of device `c` at contents `f`. -/
abbrev buf (b : Ref sig .tc) (f : b.ty.Contents (Elt F)) : sProp 𝕄 :=
  (c : Thread nD τ).loc b ↦{fullShare} (f : Buf (Elt F) ((c : Thread nD τ).loc b))

/-- A working buffer at some contents. -/
abbrev some (b : Ref sig .tc) : sProp 𝕄 := iprop(∃ f : Buf (Elt F) ((c : Thread nD τ).loc b), ((c : Thread nD τ).loc b) ↦{fullShare} f)

/-- The slots and cells at the start of the rounds, after the barrier. -/
theorem halves_start (x : Fin 2) (Y : S2x4096x512.Idx → Elt F .bf16) :
    (owns (c : Thread nD τ) (kvM x) fullShare Y : sProp 𝕄) ⊢ iprop((∃ Z, slab c fullShare x 0 Z)
      ∗ (∃ X, holds (F := F) c x 1 0 fullShare X) ∗ (∃ X, holds (F := F) c x 1 1 fullShare X)) := by
  refine (slabs_of_buffer c fullShare x Y).trans ?_
  iintro ⟨%Z₀, %Z₁, H0, H1⟩
  ihave H1 := (halves_of_slab c fullShare x 1 Z₁) $$ H1
  icases H1 with ⟨Ha, Hb⟩
  isplitl [H0]; · iexists Z₀; iexact H0
  isplitl [Ha]; · iexists _; iexact Ha
  iexists _; iexact Hb

set_option maxHeartbeats 1000000 in
theorem run_prologue (k v : S4096x512.Idx → Elt F .bf16) (O : CellTallies nD τ sig ℕ) (hO : Above 2 O) (Q : PUnit → sProp 𝕄) :
    iprop(ctx A K ∗ some (F := F) c cc0_scratch0 ∗ some (F := F) c cc0_scratch1 ∗ some (F := F) c cc0_scratch2 ∗ some (F := F) c cc0_scratch3 ∗ some (F := F) c cc0_scratch4
        ∗ buf c cc0_stg1_0 k ∗ buf c cc0_stg2_0 v
        ∗ dutyTok ER (cel (dst (oth 0) c) .bar) 0 0 ∗ dutyTok ER (cel (dst (oth 1) c) .bar) 0 1 ∗ cred (tallyAt (cel c .bar) 0 2)
        ∗ at_ (F := F) c (fun _ => 0) .bar ∗ owed c (O + oweBar c 0 + oweBar c 1)
        ∗ ((owed c O ∗ at_ (F := F) c last .bar ∗ offer c 0 0 ∗ offer c 1 0 ∗ slab c fullShare 0 0 k ∗ slab c fullShare 1 0 v
            ∗ cols c st₀ ∗ buf c cc0_stg1_0 k ∗ buf c cc0_stg2_0 v) -∗ Q ⟨⟩))
      ⊢ run c (prologue c) Q := by
  unfold prologue
  iintro ⟨#Hc, ⟨%f0, H0⟩, ⟨%f1, H1⟩, ⟨%f2, H2⟩, ⟨%f3, H3⟩, ⟨%f4, H4⟩, Hk, Hv, T0, T1, Hcr, Hat, HO, HQ⟩
  ihave H0 := ((Entails.of_eq (owns_whole (c : Thread nD τ) cc0_scratch0 fullShare f0).symm).trans (halves_start c 0 f0)) $$ H0
  ihave H1 := ((Entails.of_eq (owns_whole (c : Thread nD τ) cc0_scratch1 fullShare f1).symm).trans (halves_start c 1 f1)) $$ H1
  icases H0 with ⟨⟨%Z0, S0⟩, ⟨%X00, H00⟩, ⟨%X01, H01⟩⟩
  icases H1 with ⟨⟨%Z1, S1⟩, ⟨%X10, H10⟩, ⟨%X11, H11⟩⟩
  -- the handshake
  rw [run_bind]
  iapply (run_signalBar A K c 0 (O + oweBar c 0) _)
  isplitr; · iexact Hc
  isplitl [H00 H10]
  · unfold offer
    isplitl [H00]
    · iapply (hole_intro₀ A K c 0 0 X00); isplitr; · iexact Hc
      iexact H00
    · iapply (hole_intro₀ A K c 1 0 X10); isplitr; · iexact Hc
      iexact H10
  isplitl [T0]; · iexact T0
  isplitl [HO]; · iexact HO
  iintro HO
  rw [run_bind]
  iapply (run_signalBar A K c 1 O _)
  isplitr; · iexact Hc
  isplitl [H01 H11]
  · unfold offer
    isplitl [H01]
    · iapply (hole_intro₀ A K c 0 1 X01); isplitr; · iexact Hc
      iexact H01
    · iapply (hole_intro₀ A K c 1 1 X11); isplitr; · iexact Hc
      iexact H11
  isplitl [T1]; · iexact T1
  isplitl [HO]; · iexact HO
  iintro HO
  rw [run_bind]
  iapply (run_waitBar A K c O hO _)
  isplitr; · iexact Hc
  isplitl [Hcr]; · iexact Hcr
  isplitl [HO]; · iexact HO
  isplitl [Hat]; · iexact Hat
  iintro ⟨HO, Hat, O0, O1⟩
  -- the copies into slot 0 and the initial running values
  simp only [Prog.bind_lift]
  ihave S0 := (slab_elim c fullShare 0 0 Z0) $$ S0
  ihave S1 := (slab_elim c fullShare 1 0 Z1) $$ S1
  icases S0 with ⟨%g0, -, S0⟩
  icases S1 with ⟨%g1, -, S1⟩
  iapply (wp_load 𝒱₀ (c : Thread nD τ) none Set.univ (m := kM) (Finset.subset_univ _)) $$ Hk; iintro Hk
  rw [read_k]
  iapply (wp_load_rect 𝒱₀ (c : Thread nD τ) none Set.univ (m := kvM 0) (r := slotRect 0) (Finset.Subset.refl _)) $$ S0; iintro S0
  iapply (wp_store 𝒱₀ (c : Thread nD τ) none Set.univ (m := kvM 0) (r := slotRect 0) (Mk := Finset.univ)
    (S := ((kvM 0).access (slotRect 0)).set) (by rw [View.setOn_univ])) $$ S0; iintro S0
  iapply (wp_load 𝒱₀ (c : Thread nD τ) none Set.univ (m := vM) (Finset.subset_univ _)) $$ Hv; iintro Hv
  rw [read_v]
  iapply (wp_load_rect 𝒱₀ (c : Thread nD τ) none Set.univ (m := kvM 1) (r := slotRect 0) (Finset.Subset.refl _)) $$ S1; iintro S1
  iapply (wp_store 𝒱₀ (c : Thread nD τ) none Set.univ (m := kvM 1) (r := slotRect 0) (Mk := Finset.univ)
    (S := ((kvM 1).access (slotRect 0)).set) (by rw [View.setOn_univ])) $$ S1; iintro S1
  iapply (wp_load 𝒱₀ (c : Thread nD τ) none Set.univ (m := mM) (Finset.subset_univ _)) $$ H3; iintro H3
  iapply (wp_store 𝒱₀ (c : Thread nD τ) none Set.univ (m := mM) (r := thin) (Mk := Finset.univ) (Finset.subset_univ _)) $$ H3; iintro H3
  rw [write_m]
  iapply (wp_load 𝒱₀ (c : Thread nD τ) none Set.univ (m := lM) (Finset.subset_univ _)) $$ H4; iintro H4
  iapply (wp_store 𝒱₀ (c : Thread nD τ) none Set.univ (m := lM) (r := thin) (Mk := Finset.univ) (Finset.subset_univ _)) $$ H4; iintro H4
  rw [write_l]
  iapply (wp_load 𝒱₀ (c : Thread nD τ) none Set.univ (m := accM) (Finset.subset_univ _)) $$ H2; iintro H2
  simp only [Prog.lift]
  iapply (wp_store 𝒱₀ (c : Thread nD τ) none Set.univ (m := accM) (r := wide) (Mk := Finset.univ) (Finset.subset_univ _)) $$ H2; iintro H2
  rw [write_acc]
  rw [wp_ret]; imodintro
  iapply HQ
  isplitl [HO]; · iexact HO
  isplitl [Hat]; · iexact Hat
  isplitl [O0]; · iexact O0
  isplitl [O1]; · iexact O1
  isplitl [S0]
  · iapply (slab_intro c fullShare 0 0 k _ ((View.read_write_univ _ _).trans (pay100_eq k))); iexact S0
  isplitl [S1]
  · iapply (slab_intro c fullShare 1 0 v _ ((View.read_write_univ _ _).trans (pay101_eq v))); iexact S1
  isplitl [H2 H3 H4]
  · unfold cols st₀
    isplitl [H3]; · iexact H3
    isplitl [H4]; · iexact H4
    iexact H2
  isplitl [Hk]; · iexact Hk
  iexact Hv

/-! ## The epilogue -/

/-- The result block. -/
def outOf (S : St F) : S4096x512.Idx → Elt F .f32 := k0_pay3 S.a S.l

theorem run_epilogue (S : St F) (Q : PUnit → sProp 𝕄) :
    iprop(cols c S ∗ some (F := F) c cc0_stg3_0 ∗ ((cols c S ∗ buf c cc0_stg3_0 (outOf S)) -∗ |={Set.univ}=> Q ⟨⟩)) ⊢ run c epilogue Q := by
  unfold epilogue cols outOf
  simp only [Prog.bind_lift]
  iintro ⟨⟨Hm, Hl, Ha⟩, ⟨%f, Ho⟩, HQ⟩
  iapply (wp_load 𝒱₀ (c : Thread nD τ) none Set.univ (m := accM) (Finset.subset_univ _)) $$ Ha; iintro Ha
  rw [read_acc]
  iapply (wp_load 𝒱₀ (c : Thread nD τ) none Set.univ (m := lM) (Finset.subset_univ _)) $$ Hl; iintro Hl
  rw [read_l]
  iapply (wp_load 𝒱₀ (c : Thread nD τ) none Set.univ (m := oM) (Finset.subset_univ _)) $$ Ho; iintro Ho
  iapply (wp_store 𝒱₀ (c : Thread nD τ) none Set.univ (m := oM) (r := wide) (Mk := Finset.univ) (Finset.subset_univ _)) $$ Ho; iintro Ho
  rw [write_o]
  rw [show (pure PUnit.unit : PG F PUnit) = .ret PUnit.unit from rfl, wp_ret]
  iapply HQ
  isplitl [Hm Hl Ha]
  · isplitl [Hm]; · iexact Hm
    isplitl [Hl]; · iexact Hl
    iexact Ha
  iexact Ho

/-! ## The body -/

/-- The last hop and the last update. -/
theorem run_tail (Q : PUnit → sProp 𝕄) :
    iprop(ctx A K ∗ before A q c 14 ∗ four (hopTok (F := F) c 14) ∗ some (F := F) c cc0_stg3_0
        ∗ ((four (quad (at_ (F := F) c last)) ∗ (atPos ER (cel c (.crd 0)) 14 ∅ 0 ∗ atPos ER (cel c (.crd 1)) 14 ∅ 0)
            ∗ four (fun x b => iprop(∃ X, holds (F := F) c x 0 b fullShare X)) ∗ four (fun x b => holds c x 1 b fullShare (chunk A x b c 15))
            ∗ queries c q ∗ cols c (stAt A q c 16) ∗ owed c 0 ∗ buf c cc0_stg3_0 (outOf (stAt A q c 16))) -∗ |={Set.univ}=> Q ⟨⟩))
      ⊢ run c (hop c 0 >>= fun _ => update 1 >>= fun _ => epilogue) Q := by
  unfold before
  rw [oweFrom_step c (show 14 < 15 by omega), oweFrom_end, show oweHand c 14 = 0 from if_neg (by omega), add_zero]
  iintro ⟨#Hc, ⟨HL, Hroom, HP, Hq, HS, HO⟩, HT, Hout, HQ⟩
  rw [run_bind]
  iapply (run_hop A K q c (show 14 < 15 by omega) 0 (Above.zero _) _)
  isplitr; · iexact Hc
  isplitl [HL]; · iexact HL
  isplitl [Hroom]; · iexact Hroom
  isplitl [HT]; · iexact HT
  isplitl [Hq]; · iexact Hq
  isplitl [HS]; · iexact HS
  isplitl [HO]; · iexact HO
  iintro ⟨HL, HR, Hq, HS, HO⟩
  ihave HL := ((four_mono (lane_end A c)).trans (four_unsep _ _)) $$ HL
  icases HL with ⟨Hat, HL⟩
  ihave HR := (four_mono (freed_end c)) $$ HR
  have hj (x : Fin 2) := slab_of_halves c fullShare x 1 (blockAt A x c 15)
  have hs (x : Fin 2) := halves_of_slab c fullShare x 1 (blockAt A x c 15)
  simp only [half_blockAt] at hj hs
  ihave HL := (show (four (fun x b => holds c x 1 b fullShare (chunk A x b c 15)) : sProp 𝕄)
    ⊢ iprop(holds c 0 1 0 fullShare (chunk A 0 0 c 15) ∗ holds c 0 1 1 fullShare (chunk A 0 1 c 15)
      ∗ holds c 1 1 0 fullShare (chunk A 1 0 c 15) ∗ holds c 1 1 1 fullShare (chunk A 1 1 c 15)) from .rfl) $$ HL
  icases HL with ⟨L00, L01, L10, L11⟩
  ihave H0 := (hj 0) $$ [L00 L01]
  · isplitl [L00] <;> iassumption
  ihave H1 := (hj 1) $$ [L10 L11]
  · isplitl [L10] <;> iassumption
  rw [run_bind]
  iapply (run_update c fullShare 1 q (blockAt A 0 c 15) (blockAt A 1 c 15) (stAt A q c 15) _)
  isplitl [Hq]; · iexact Hq
  isplitl [H0]; · iexact H0
  isplitl [H1]; · iexact H1
  isplitl [HS]; · iexact HS
  iintro ⟨Hq, H0, H1, HS⟩
  ihave H0 := (hs 0) $$ H0
  ihave H1 := (hs 1) $$ H1
  icases H0 with ⟨L00, L01⟩
  icases H1 with ⟨L10, L11⟩
  iapply (run_epilogue c (stAt A q c 16) _)
  isplitl [HS]; · iexact HS
  isplitl [Hout]; · iexact Hout
  iintro ⟨HS, Hout⟩
  iapply HQ
  isplitl [Hat]; · iexact Hat
  isplitl [HP]; · iexact HP
  isplitl [HR]; · iexact HR
  isplitl [L00 L01 L10 L11]
  · unfold four
    isplitl [L00]; · iexact L00
    isplitl [L01]; · iexact L01
    isplitl [L10]; · iexact L10
    iexact L11
  isplitl [Hq]; · iexact Hq
  isplitl [HS]; · iexact HS
  isplitl [HO]; · iexact HO
  iexact Hout

/-- The halves of both slots are the two buffers again. -/
theorem buffers_end :
    iprop(four (fun x b => iprop(∃ X, holds (F := F) c x 0 b fullShare X)) ∗ four (fun x b => holds c x 1 b fullShare (chunk A x b c 15)))
      ⊢ iprop(some (F := F) c cc0_scratch0 ∗ some (F := F) c cc0_scratch1) := by
  have h (x : Fin 2) (X : Fin 2 → Fin 2 → S2048x512.Idx → Elt F .bf16) := buffer_of_halves c fullShare x X
  unfold four
  iintro ⟨⟨⟨%X00, A00⟩, ⟨%X01, A01⟩, ⟨%X10, A10⟩, ⟨%X11, A11⟩⟩, ⟨B00, B01, B10, B11⟩⟩
  ihave H0 := (h 0 ![![X00, X01], ![chunk A 0 0 c 15, chunk A 0 1 c 15]]) $$ [A00 A01 B00 B01]
  · isplitl [A00 A01]
    · isplitl [A00]; · iexact A00
      iexact A01
    isplitl [B00]; · iexact B00
    iexact B01
  ihave H1 := (h 1 ![![X10, X11], ![chunk A 1 0 c 15, chunk A 1 1 c 15]]) $$ [A10 A11 B10 B11]
  · isplitl [A10 A11]
    · isplitl [A10]; · iexact A10
      iexact A11
    isplitl [B10]; · iexact B10
    iexact B11
  icases H0 with ⟨%Y0, H0⟩
  icases H1 with ⟨%Y1, H1⟩
  ihave H0 := (Entails.of_eq (owns_whole (c : Thread nD τ) cc0_scratch0 fullShare Y0)) $$ H0
  ihave H1 := (Entails.of_eq (owns_whole (c : Thread nD τ) cc0_scratch1 fullShare Y1)) $$ H1
  isplitl [H0]
  · iexists Y0; iexact H0
  · iexists Y1; iexact H1

/-- The tokens and credits device `c` starts with. -/
def supply : sProp 𝕄 :=
  iprop((dutyTok ER (cel (dst (oth 0) c) .bar) 0 0 ∗ dutyTok ER (cel (dst (oth 1) c) .bar) 0 1 ∗ cred (tallyAt (cel c .bar) 0 2))
    ∗ bigSep (Finset.range 14) (roundTok (F := F) c) ∗ four (hopTok (F := F) c 14))

/-- The five working buffers. -/
def scratch : sProp 𝕄 :=
  iprop(some (F := F) c cc0_scratch0 ∗ some (F := F) c cc0_scratch1 ∗ some (F := F) c cc0_scratch2 ∗ some (F := F) c cc0_scratch3 ∗ some (F := F) c cc0_scratch4)

/-- The body of device `d`. -/
def bodyAt (d : Dev nD) : PG F PUnit := do
  prologue d
  rounds d 14
  hop d 0
  update 1
  epilogue

theorem run_deviceId (k : Dev nD → PG F PUnit) (Q : PUnit → sProp 𝕄) : run c (.op .deviceId k) Q = run c (k c) Q := by
  rw [run, wp_deviceId]

set_option maxHeartbeats 2000000 in
/-- The body: with the staged query, key and value blocks and everybody's blocks `A`, the result block is computed, the
    staged blocks are as they were, and every semaphore of the device is at zero. -/
theorem run_ring (Q : PUnit → sProp 𝕄) :
    iprop(ctx A K ∗ bigSep Finset.univ (at_ (F := F) c fun _ => 0) ∗ supply c ∗ owed c (O₀ c) ∗ scratch c
        ∗ queries c q ∗ buf c cc0_stg1_0 (A 0 c) ∗ buf c cc0_stg2_0 (A 1 c) ∗ some (F := F) c cc0_stg3_0
        ∗ (((bigSep Finset.univ fun k : CK => (semVal (cel c k) 0 : sProp 𝕄)) ∗ owed c 0 ∗ scratch c
            ∗ queries c q ∗ buf c cc0_stg1_0 (A 0 c) ∗ buf c cc0_stg2_0 (A 1 c) ∗ buf c cc0_stg3_0 (outOf (stAt A q c 16))) -∗ Q ⟨⟩))
      ⊢ run c ringProg Q := by
  unfold supply scratch
  rw [show (ringProg : PG F PUnit) = .op .deviceId fun d => bodyAt d from rfl, run_deviceId]
  unfold bodyAt
  iintro ⟨#Hc, Hat, ⟨⟨T0, T1, Hcb⟩, HTs, HT14⟩, HO, ⟨H0, H1, H2, H3, H4⟩, Hq, Hk, Hv, Hout, HQ⟩
  ihave Hat := (cells_split (at_ (F := F) c fun _ => 0)) $$ Hat
  icases Hat with ⟨Hb, Hcrd, Hquad⟩
  rw [run_bind]
  iapply (run_prologue A K c (A 0 c) (A 1 c) (oweFrom c 0) ((above_from c 0).mono (by omega)) _)
  isplitr; · iexact Hc
  isplitl [H0]; · iexact H0
  isplitl [H1]; · iexact H1
  isplitl [H2]; · iexact H2
  isplitl [H3]; · iexact H3
  isplitl [H4]; · iexact H4
  isplitl [Hk]; · iexact Hk
  isplitl [Hv]; · iexact Hv
  isplitl [T0]; · iexact T0
  isplitl [T1]; · iexact T1
  isplitl [Hcb]; · iexact Hcb
  isplitl [Hb]; · iexact Hb
  isplitl [HO]; · iexact HO
  iintro ⟨HO, Hb, O0, O1, S0, S1, HS, Hk, Hv⟩
  ihave S0 := (halves_of_slab c fullShare 0 0 (A 0 c)) $$ S0
  ihave S1 := (halves_of_slab c fullShare 1 0 (A 1 c)) $$ S1
  icases S0 with ⟨S00, S01⟩
  icases S1 with ⟨S10, S11⟩
  ihave HL := ((sep_mono_right (four_sep _ _)).trans (four_mono_with (lane_start A K c))) $$ [Hquad S00 S01 S10 S11]
  · isplitr; · iexact Hc
    isplitl [Hquad]; · iexact Hquad
    unfold four
    isplitl [S00]; · iexact S00
    isplitl [S01]; · iexact S01
    isplitl [S10]; · iexact S10
    iexact S11
  rw [run_bind]
  iapply (run_rounds A K q c 14 (by omega) _)
  isplitr; · iexact Hc
  isplitl [HL O0 O1 Hcrd Hq HS HO]
  · unfold before room
    isplitl [HL]; · iexact HL
    isplitl [O0 O1]
    · isplitl [O0 O1]
      · isplitl [O0]; · iexact O0
        iexact O1
      isplitr; · iapply (ctx_reached A K c (.crd 0)); iexact Hc
      iapply (ctx_reached A K c (.crd 1)); iexact Hc
    isplitl [Hcrd]; · iexact Hcrd
    isplitl [Hq]; · iexact Hq
    isplitl [HS]; · iexact HS
    iexact HO
  isplitl [HTs]; · iexact HTs
  iintro Hbefore
  iapply (run_tail A K q c _)
  isplitr; · iexact Hc
  isplitl [Hbefore]; · iexact Hbefore
  isplitl [HT14]; · iexact HT14
  isplitl [Hout]; · iexact Hout
  iintro ⟨Hquad, Hcrd, HR, HL, Hq, HS, HO, Hout⟩
  ihave HB := (buffers_end A c) $$ [HR HL]
  · isplitl [HR]; · iexact HR
    iexact HL
  icases HB with ⟨H0, H1⟩
  ihave Hat := (cells_join (at_ (F := F) c last)) $$ [Hb Hcrd Hquad]
  · isplitl [Hb]; · iexact Hb
    isplitl [Hcrd]; · iexact Hcrd
    iexact Hquad
  imod (close_all A K c) $$ [Hat] with Hz
  · isplitr; · iexact Hc
    iexact Hat
  imodintro
  iapply HQ
  isplitl [Hz]; · iexact Hz
  isplitl [HO]; · iexact HO
  isplitl [H0 H1 HS]
  · unfold cols
    icases HS with ⟨H3, H4, H2⟩
    isplitl [H0]; · iexact H0
    isplitl [H1]; · iexact H1
    isplitl [H2]; · iexists _; iexact H2
    isplitl [H3]; · iexists _; iexact H3
    iexists _; iexact H4
  isplitl [Hq]; · iexact Hq
  isplitl [Hk]; · iexact Hk
  isplitl [Hv]; · iexact Hv
  iexact Hout

end Cert.KernelIdeal.Ring
end
-- ==== Proof.KI.Launch.lean ====
/-
# The launch

What every device is dealt at the start, the run of `@main`, and what its final states hold.
-/
module

public import proofs.«01_k».proof.Proof.KI.Whole
public import Idealize.ShloMosaic.Lib.Quiescent
public import Idealize.ShloMosaic.Lib.Pipeline.CollectiveSegs

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

/-! ## The tokens -/

/-- The duties a device pays: the two barrier signals, the send and the receive duty of each of its transfers, the credits
    it answers with. -/
abbrev Duty : Type := Fin 2 ⊕ (Fin 15 × Fin 2 × Fin 2) ⊕ (Fin 15 × Fin 2 × Fin 2) ⊕ (Fin 14 × Fin 2)

/-- The token of a duty that device `c` pays. -/
def tokOf (c : Dev nD) : Duty → GSem nD τ sig × ℕ × Fin 2
  | .inl b => (cel (dst (oth b) c) .bar, 0, b)
  | .inr (.inl (h, x, b)) => (cel c (.snd (slotOf h) x b), h.val / 2, 0)
  | .inr (.inr (.inl (h, x, b))) => (cel (dst b c) (.rcv (oth (slotOf h)) x b), h.val / 2, 0)
  | .inr (.inr (.inr (h, b))) => (cel (dst (oth b) c) (.crd b), h.val, 0)

theorem dst_inj {b : Fin 2} {c c' : Dev nD} (h : dst b c = dst b c') : c = c' := by
  rw [← dst_dst b c, h, dst_dst]

theorem hop_inj {n : ℕ} {h h' : Fin n} (hs : slotOf h = slotOf h') (hr : h.val / 2 = h'.val / 2) : h = h' := by
  have := congrArg Fin.val hs
  simp only [slotOf] at this
  exact Fin.ext (by omega)

theorem tokOf_injective : Function.Injective fun cj : Dev nD × Duty => tokOf cj.1 cj.2 := by
  rintro ⟨c, j⟩ ⟨c', j'⟩ h
  have h1 : (tokOf c j).1 = (tokOf c' j').1 := congrArg Prod.fst h
  have h2 : (tokOf c j).2.1 = (tokOf c' j').2.1 := congrArg (fun t => t.2.1) h
  have h3 : (tokOf c j).2.2 = (tokOf c' j').2.2 := congrArg (fun t => t.2.2) h
  rcases j with b | ⟨n, x, b⟩ | ⟨n, x, b⟩ | ⟨n, b⟩ <;> rcases j' with b' | ⟨n', x', b'⟩ | ⟨n', x', b'⟩ | ⟨n', b'⟩ <;>
    obtain ⟨hc, hk⟩ := cel_inj h1 <;> first | (exact absurd hk (fun e => CK.noConfusion e)) | skip
  · have hb : b = b' := h3
    subst hb; rw [dst_inj hc]
  · obtain ⟨hs, rfl, rfl⟩ := CK.snd.inj hk
    rw [hop_inj hs h2, show c = c' from hc]
  · obtain ⟨hs, rfl, rfl⟩ := CK.rcv.inj hk
    rw [hop_inj (by rw [← oth_oth (slotOf n), hs, oth_oth]) h2, dst_inj hc]
  · cases CK.crd.inj hk
    rw [dst_inj hc, show n = n' from Fin.ext h2]

def ringToks : Finset (GSem nD τ sig × ℕ × Fin 2) := Finset.univ.map ⟨_, tokOf_injective⟩
def ringCells : Finset (GSem nD τ sig) :=
  Finset.univ.map ⟨fun ck : Dev nD × CK => cel ck.1 ck.2, fun a b h => Prod.ext (cel_inj h).1 (cel_inj h).2⟩

def tok (t : GSem nD τ sig × ℕ × Fin 2) : sProp 𝕄 := dutyTok ER t.1 t.2.1 t.2.2

/-- The tokens of one hop and of one hand-over. -/
def hopDuty (c : Dev nD) (h : ℕ) (x b : Fin 2) : sProp 𝕄 :=
  iprop(dutyTok ER (cel c (.snd (slotOf h) x b)) (h / 2) 0 ∗ dutyTok ER (cel (dst b c) (.rcv (oth (slotOf h)) x b)) (h / 2) 0)
def handDuty (c : Dev nD) (h : ℕ) (b : Fin 2) : sProp 𝕄 := dutyTok ER (cel (dst (oth b) c) (.crd b)) h 0

def toks (c : Dev nD) : sProp 𝕄 :=
  iprop((dutyTok ER (cel (dst (oth 0) c) .bar) 0 0 ∗ dutyTok ER (cel (dst (oth 1) c) .bar) 0 1)
    ∗ (bigSep (Finset.range 15) fun h => four (hopDuty (F := F) c h))
    ∗ bigSep (Finset.range 14) fun h => iprop(handDuty (F := F) c h 0 ∗ handDuty c h 1))

theorem bigSep_hops {n : ℕ} (P : ℕ → sProp 𝕄) : (bigSep Finset.univ fun h : Fin n => P h.val) = bigSep (Finset.range n) P := by
  have h := bigSep_map (s := (Finset.univ : Finset (Fin n))) Fin.valEmbedding (Φ := P)
  rw [show (Finset.univ : Finset (Fin n)).map Fin.valEmbedding = Finset.range n from Finset.ext fun k => by
    simp only [Finset.mem_map, Finset.mem_univ, true_and, Finset.mem_range, Fin.valEmbedding_apply]
    exact ⟨fun ⟨a, ha⟩ => ha ▸ a.isLt, fun hk => ⟨⟨k, hk⟩, rfl⟩⟩] at h
  exact h.symm

theorem bigSep_pairs (P : Fin 2 → Fin 2 → sProp 𝕄) : (bigSep Finset.univ fun xb : Fin 2 × Fin 2 => P xb.1 xb.2) ⊢ four P := by
  rw [bigSep_univ_prod (fun xb : Fin 2 × Fin 2 => P xb.1 xb.2), bigSep_univ_two, bigSep_univ_two, bigSep_univ_two]
  unfold four
  iintro ⟨⟨H0, H1⟩, ⟨H2, H3⟩⟩
  isplitl [H0]; · iexact H0
  isplitl [H1]; · iexact H1
  isplitl [H2] <;> iassumption

theorem bigSep_grid {n : ℕ} (P : ℕ → Fin 2 → Fin 2 → sProp 𝕄) :
    (bigSep Finset.univ fun t : Fin n × Fin 2 × Fin 2 => P t.1.val t.2.1 t.2.2) ⊢ bigSep (Finset.range n) fun h => four (P h) := by
  rw [bigSep_univ_prod (fun t : Fin n × Fin 2 × Fin 2 => P t.1.val t.2.1 t.2.2)]
  exact (bigSep_mono fun h _ => bigSep_pairs (P h.val)).trans (Entails.of_eq (bigSep_hops fun h => four (P h)))

theorem toks_intro (c : Dev nD) : (bigSep Finset.univ fun j : Duty => tok (F := F) (tokOf c j)) ⊢ toks c := by
  rw [bigSep_univ_sum, bigSep_univ_sum, bigSep_univ_sum]
  unfold toks
  have hs := bigSep_grid (n := 15) (fun h x b => (dutyTok ER (cel c (.snd (slotOf h) x b)) (h / 2) 0 : sProp 𝕄))
  have hr := bigSep_grid (n := 15) (fun h x b => (dutyTok ER (cel (dst b c) (.rcv (oth (slotOf h)) x b)) (h / 2) 0 : sProp 𝕄))
  have hb : (bigSep Finset.univ fun b : Fin 2 => tok (F := F) (tokOf c (.inl b)))
      ⊢ iprop(dutyTok ER (cel (dst (oth 0) c) .bar) 0 0 ∗ dutyTok ER (cel (dst (oth 1) c) .bar) 0 1) := by
    rw [bigSep_univ_two]; exact .rfl
  have hc : (bigSep Finset.univ fun t : Fin 14 × Fin 2 => handDuty (F := F) c t.1.val t.2)
      ⊢ bigSep (Finset.range 14) fun h => iprop(handDuty (F := F) c h 0 ∗ handDuty c h 1) := by
    rw [bigSep_univ_prod (fun t : Fin 14 × Fin 2 => handDuty (F := F) c t.1.val t.2)]
    refine (bigSep_mono fun h _ => Entails.of_eq (bigSep_univ_two _)).trans ?_
    exact Entails.of_eq (bigSep_hops fun h => iprop(handDuty (F := F) c h 0 ∗ handDuty c h 1))
  have ht : iprop((bigSep (Finset.range 15) fun h => four fun x b => (dutyTok ER (cel c (.snd (slotOf h) x b)) (h / 2) 0 : sProp 𝕄))
      ∗ bigSep (Finset.range 15) fun h => four fun x b => (dutyTok ER (cel (dst b c) (.rcv (oth (slotOf h)) x b)) (h / 2) 0 : sProp 𝕄))
      ⊢ bigSep (Finset.range 15) fun h => four (hopDuty (F := F) c h) :=
    (Entails.of_eq (bigSep_sep' _ _ _).symm).trans (bigSep_mono fun h _ => four_sep _ _)
  have hmid (P Q R S T : sProp 𝕄) (h : iprop(Q ∗ R) ⊢ T) : iprop(P ∗ Q ∗ R ∗ S) ⊢ iprop(P ∗ T ∗ S) := by
    iintro ⟨HP, HQ, HR, HS⟩
    isplitl [HP]; · iexact HP
    isplitl [HQ HR]
    · iapply h
      isplitl [HQ] <;> iassumption
    iexact HS
  exact (BI.sep_mono hb (BI.sep_mono hs (BI.sep_mono hr hc))).trans (hmid _ _ _ _ _ ht)

/-! ## The credits -/

def creds (c : Dev nD) : sProp 𝕄 :=
  iprop(cred (tallyAt (cel c .bar) 0 2)
    ∗ (bigSep (Finset.range 15) fun h => four fun x b => (cred (tallyAt (cel c (.rcv (oth (slotOf h)) x b)) h N) : sProp 𝕄))
    ∗ bigSep (Finset.range 14) fun h => iprop(cred (tallyAt (cel c (.crd 0)) h 1) ∗ cred (tallyAt (cel c (.crd 1)) h 1)))

theorem credit_bar (c : Dev nD) (b : Fin 2) : (Pipeline.launchCred (fun d => oweBar d b) c : sProp 𝕄) ⊢ cred (tallyAt (cel c .bar) 0 1) :=
  Pipeline.launchCred_tallyAt (csem .bar) (dst b) (dst (oth b)) (dst_oth_dst b) (dst_dst b) 0 1 c
theorem credit_hop (c : Dev nD) (h : ℕ) (x b : Fin 2) :
    (Pipeline.launchCred (fun d => oweHop d h x b) c : sProp 𝕄) ⊢ cred (tallyAt (cel c (.rcv (oth (slotOf h)) x b)) h N) :=
  Pipeline.launchCred_tallyAt (csem (.rcv (oth (slotOf h)) x b)) (dst b) (dst (oth b)) (dst_oth_dst b) (dst_dst b) h N c
theorem credit_crd (c : Dev nD) (h : ℕ) (b : Fin 2) :
    (Pipeline.launchCred (fun d => oweCrd d h b) c : sProp 𝕄) ⊢ cred (tallyAt (cel c (.crd b)) h 1) :=
  Pipeline.launchCred_tallyAt (csem (.crd b)) (dst (oth b)) (dst b) (dst_dst b) (dst_oth_dst b) h 1 c

/-- The credits after hop `h`. -/
def handCred (c : Dev nD) (h : ℕ) : sProp 𝕄 :=
  if h < 14 then iprop(cred (tallyAt (cel c (.crd 0)) h 1) ∗ cred (tallyAt (cel c (.crd 1)) h 1)) else iprop(emp)

theorem credit_hand (c : Dev nD) (h : ℕ) : (Pipeline.launchCred (fun d => oweHand d h) c : sProp 𝕄) ⊢ handCred c h := by
  unfold oweHand handCred
  by_cases hh : h < 14
  · simp only [if_pos hh]
    rw [Pipeline.launchCred_add (fun d => oweCrd d h 1) (fun d => oweCrd d h 0)]
    iintro ⟨H1, H0⟩
    isplitl [H0]
    · iapply (credit_crd c h 0); iexact H0
    · iapply (credit_crd c h 1); iexact H1
  · simp only [if_neg hh]
    rw [Pipeline.launchCred_zero]

theorem credit_at (c : Dev nD) (h : ℕ) : (Pipeline.launchCred (fun d => oweAt d h) c : sProp 𝕄)
    ⊢ iprop(handCred c h ∗ four fun x b => cred (tallyAt (cel c (.rcv (oth (slotOf h)) x b)) h N)) := by
  unfold oweAt four
  rw [Pipeline.launchCred_add (fun d => oweHand d h + oweHop d h 1 1 + oweHop d h 1 0 + oweHop d h 0 1) (fun d => oweHop d h 0 0),
    Pipeline.launchCred_add (fun d => oweHand d h + oweHop d h 1 1 + oweHop d h 1 0) (fun d => oweHop d h 0 1),
    Pipeline.launchCred_add (fun d => oweHand d h + oweHop d h 1 1) (fun d => oweHop d h 1 0),
    Pipeline.launchCred_add (fun d => oweHand d h) (fun d => oweHop d h 1 1)]
  iintro ⟨⟨⟨⟨Hh, H11⟩, H10⟩, H01⟩, H00⟩
  isplitl [Hh]; · iapply (credit_hand c h); iexact Hh
  isplitl [H00]; · iapply (credit_hop c h 0 0); iexact H00
  isplitl [H01]; · iapply (credit_hop c h 0 1); iexact H01
  isplitl [H10]; · iapply (credit_hop c h 1 0); iexact H10
  iapply (credit_hop c h 1 1); iexact H11

theorem creds_intro (c : Dev nD) : (Pipeline.launchCred O₀ c : sProp 𝕄) ⊢ creds c := by
  rw [show O₀ = fun d => (oweFrom d 0 + oweBar d 0) + oweBar d 1 from rfl,
    Pipeline.launchCred_add (fun d => oweFrom d 0 + oweBar d 0) (fun d => oweBar d 1),
    Pipeline.launchCred_add (fun d => oweFrom d 0) (fun d => oweBar d 0)]
  unfold oweFrom
  rw [Pipeline.launchCred_sum (Finset.Ico 0 15) (fun h d => oweAt d h), ← Finset.range_eq_Ico]
  unfold creds
  have hat : (bigSep (Finset.range 15) fun h => (Pipeline.launchCred (fun d => oweAt d h) c : sProp 𝕄))
      ⊢ iprop(bigSep (Finset.range 15) (handCred (F := F) c)
        ∗ bigSep (Finset.range 15) fun h => four fun x b => (cred (tallyAt (cel c (.rcv (oth (slotOf h)) x b)) h N) : sProp 𝕄)) :=
    (bigSep_mono fun h _ => credit_at c h).trans (Entails.of_eq (bigSep_sep' (Finset.range 15) (handCred (F := F) c) _))
  have h2 : iprop(cred (tallyAt (cel c .bar) 0 1) ∗ cred (tallyAt (cel c .bar) 0 1)) ⊢ (cred (tallyAt (cel c .bar) 0 (1 + 1)) : sProp 𝕄) := by
    rw [← tallyAt_add]; exact (cred_add _ _).2
  have hand : bigSep (Finset.range 14) (handCred (F := F) c)
      ⊢ bigSep (Finset.range 14) fun h => iprop(cred (tallyAt (cel c (.crd 0)) h 1) ∗ cred (tallyAt (cel c (.crd 1)) h 1)) :=
    bigSep_mono fun h hh => Entails.of_eq (show handCred (F := F) c h = _ from if_pos (Finset.mem_range.mp hh))
  have hlast (P R : sProp 𝕄) : iprop(P ∗ R) ⊢ R := by iintro ⟨-, H⟩; iexact H
  have htop : bigSep (Finset.range 15) (handCred (F := F) c) ⊢ bigSep (Finset.range 14) (handCred (F := F) c) := by
    rw [Finset.range_add_one, bigSep_insert Finset.notMem_range_self]; exact hlast _ _
  iintro ⟨⟨H, H0⟩, H1⟩
  ihave H0 := (credit_bar c 0) $$ H0
  ihave H1 := (credit_bar c 1) $$ H1
  ihave H := hat $$ H
  icases H with ⟨Hh, H⟩
  isplitl [H0 H1]
  · iapply h2
    isplitl [H0]; · iexact H0
    iexact H1
  isplitl [H]; · iexact H
  ihave Hh := htop $$ Hh
  iapply hand
  iexact Hh

/-- The tokens and the credits, hop by hop. -/
theorem supply_intro (c : Dev nD) : iprop(toks (F := F) c ∗ creds c) ⊢ supply c := by
  have hh (h : ℕ) : iprop(four (hopDuty (F := F) c h) ∗ four fun x b => cred (tallyAt (cel c (.rcv (oth (slotOf h)) x b)) h N)) ⊢ four (hopTok (F := F) c h) :=
    (four_sep _ _).trans (four_mono fun x b => by
      unfold hopDuty hopTok
      iintro ⟨⟨H1, H2⟩, H3⟩
      isplitl [H1]; · iexact H1
      isplitl [H2] <;> iassumption)
  have hx : iprop((bigSep (Finset.range 15) fun h => four (hopDuty (F := F) c h))
      ∗ bigSep (Finset.range 15) fun h => four fun x b => (cred (tallyAt (cel c (.rcv (oth (slotOf h)) x b)) h N) : sProp 𝕄))
      ⊢ iprop(four (hopTok (F := F) c 14) ∗ bigSep (Finset.range 14) fun h => four (hopTok (F := F) c h)) := by
    refine ((Entails.of_eq (bigSep_sep' _ _ _).symm).trans (bigSep_mono fun h _ => hh h)).trans ?_
    rw [Finset.range_add_one, bigSep_insert Finset.notMem_range_self]; exact .rfl
  have hr : iprop((bigSep (Finset.range 14) fun h => four (hopTok (F := F) c h))
      ∗ (bigSep (Finset.range 14) fun h => iprop(handDuty (F := F) c h 0 ∗ handDuty c h 1))
      ∗ bigSep (Finset.range 14) fun h => iprop(cred (tallyAt (cel c (.crd 0)) h 1) ∗ cred (tallyAt (cel c (.crd 1)) h 1)))
      ⊢ bigSep (Finset.range 14) (roundTok (F := F) c) := by
    rw [← bigSep_sep', ← bigSep_sep']
    refine bigSep_mono fun h _ => ?_
    show iprop(four (hopTok (F := F) c h) ∗ (handDuty (F := F) c h 0 ∗ handDuty c h 1)
        ∗ (cred (tallyAt (cel c (.crd 0)) h 1) ∗ cred (tallyAt (cel c (.crd 1)) h 1))) ⊢ roundTok (F := F) c h
    unfold roundTok handTok handDuty
    iintro ⟨H, ⟨H0, H1⟩, ⟨C0, C1⟩⟩
    isplitl [H]; · iexact H
    isplitl [H0 C0]
    · isplitl [H0] <;> iassumption
    isplitl [H1] <;> iassumption
  unfold toks creds supply
  iintro ⟨⟨⟨T0, T1⟩, HT, HH⟩, Hb, HC, HD⟩
  ihave HX := hx $$ [HT HC]
  · isplitl [HT]; · iexact HT
    iexact HC
  icases HX with ⟨H14, HX⟩
  isplitl [T0 T1 Hb]
  · isplitl [T0]; · iexact T0
    isplitl [T1]; · iexact T1
    iexact Hb
  isplitr [H14]
  · iapply hr
    isplitl [HX]; · iexact HX
    isplitl [HH]; · iexact HH
    iexact HD
  iexact H14

/-! ## The semaphores -/

/-- The kernel's own semaphores: all the cells but the barrier. -/
def osem : Fin 18 → SemLoc sig := fun i => csem (ckAll.tail.get i)

theorem ownSemFacts : Pipeline.OwnSemFacts cfg0.spec osem := by decide

theorem ownSems0_eq (c : Dev nD) : (Pipeline.ownSems0 (Ix := ℕ) (Name := ℕ) (U := UU) (Lvl := ℕ) (Val := Elt F) (τ := τ) osem c : sProp 𝕄)
    = bigSepL ckAll.tail fun k => semVal (cel c k) 0 := by
  rw [Pipeline.ownSems0_eq_of_list c osem [0, 1, 2, 3, 4, 5, 6, 7, 8, 9, 10, 11, 12, 13, 14, 15, 16, 17] (by decide) (by decide)]; rfl

theorem unscopedSems0_eq (c : Dev nD) : (unscopedSems0 c : sProp 𝕄) = semVal (cel c .bar) 0 := by
  unfold unscopedSems0; rw [bigSep_eq_bigSepL_of_eq [SemLoc.reg barS] (by decide) (by decide)]; rfl

theorem sems0_eq (c : Dev nD) : (bigSep Finset.univ fun k : CK => (semVal (cel c k) 0 : sProp 𝕄))
    = iprop(unscopedSems0 c ∗ Pipeline.ownSems0 (Ix := ℕ) (Name := ℕ) (U := UU) (Lvl := ℕ) (Val := Elt F) (τ := τ) osem c) := by
  rw [cells_eq, ownSems0_eq, unscopedSems0_eq]; rfl

/-! ## The state dealt at launch -/

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-- The staged query block of device `c`; every device's key and value block. -/
def qryOf (c : Dev nD) : S4096x512.Idx → Elt F .bf16 := (win0_0.blk (0 : Fin 1)).view.read (Elt F) (m ((c : Thread nD τ).loc main_arg0))
def blocksOf : Blocks F := fun x c => match x with
  | 0 => (win0_1.blk (0 : Fin 1)).view.read (Elt F) (m ((c : Thread nD τ).loc main_arg1))
  | 1 => (win0_2.blk (0 : Fin 1)).view.read (Elt F) (m ((c : Thread nD τ).loc main_arg2))
/-- The result block of device `c`. -/
def resultOf (c : Dev nD) : S4096x512.Idx → Elt F .f32 := outOf (stAt (blocksOf m) (qryOf m c) c 16)

/-- A device's positions and supply. -/
def start (c : Dev nD) : sProp 𝕄 :=
  iprop((∃ K, ctx (blocksOf m) K) ∗ bigSep Finset.univ (at_ (F := F) c fun _ => 0) ∗ supply c)

def Φ₀ (c : Dev nD) : sProp 𝕄 := iprop(start m c ∗ scratch c)
def Φ₁ (c : Dev nD) : sProp 𝕄 := iprop((bigSep Finset.univ fun k : CK => (semVal (cel c k) 0 : sProp 𝕄)) ∗ scratch c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => qryOf m c
    | ⟨1, _⟩ => blocksOf m 0 c
    | ⟨2, _⟩ => blocksOf m 1 c
    | ⟨3, _⟩ => resultOf m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A window's staging buffer at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

theorem fetch_in : ∀ w : Fin 3, (cfg0.win (Fin.castSucc w)).fetch t0_0 = true := by decide

/-- What the pipeline hands the body, and what it takes back. -/
def bodyPre (c : Dev nD) : sProp 𝕄 :=
  iprop(Φ₀ m c ∗ (dats m ρ 0 c).owesAt 0 t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))
def bodyPost (c : Dev nD) : sProp 𝕄 :=
  iprop(Φ₁ c ∗ (dats m ρ 0 c).owesAt 0 t0_0.succ
    ∗ stg c cc0_stg0_0 (qryOf m c) ∗ stg c cc0_stg1_0 (blocksOf m 0 c) ∗ stg c cc0_stg2_0 (blocksOf m 1 c) ∗ stg c cc0_stg3_0 (resultOf m c))

theorem sound_body (c : Dev nD) : bodyPre m ρ c ⊢ run c printed (fun _ => bodyPost m ρ c) := by
  rw [printed_eq]
  unfold bodyPre Φ₀ start Dat.owesAt Pipeline.owesWithin
  iintro ⟨⟨⟨⟨%K, #Hc⟩, Hat, Hsup⟩, Hscr⟩, ⟨%W, %hW, HO⟩, ⟨%d0, %g0, %h0, H0⟩, ⟨%d1, %g1, %h1, H1⟩, ⟨%d2, %g2, %h2, H2⟩, ⟨%d3, %g3, %h3, H3⟩⟩
  have e0 : g0 = qryOf m c := by rw [h0]; unfold Dat.before; rw [if_pos (show (cfg0.win (0 : Fin 4)).fetch t0_0 = true from fetch_in 0)]; rfl
  have e1 : g1 = blocksOf m 0 c := by rw [h1]; unfold Dat.before; rw [if_pos (show (cfg0.win (1 : Fin 4)).fetch t0_0 = true from fetch_in 1)]; rfl
  have e2 : g2 = blocksOf m 1 c := by rw [h2]; unfold Dat.before; rw [if_pos (show (cfg0.win (2 : Fin 4)).fetch t0_0 = true from fetch_in 2)]; rfl
  subst e0 e1 e2
  rw [show (dats m ρ 0 c).owed t0_0.castSucc = O₀ c from rfl]
  iapply (run_ring (blocksOf m) K (qryOf m c) c _)
  isplitr; · iexact Hc
  isplitl [Hat]; · iexact Hat
  isplitl [Hsup]; · iexact Hsup
  isplitl [HO]; · unfold owed; iexists W; iexact HO
  isplitl [Hscr]; · iexact Hscr
  isplitl [H0]; · unfold queries; iexact H0
  isplitl [H1]; · iexact H1
  isplitl [H2]; · iexact H2
  isplitl [H3]; · iexists g3; iexact H3
  unfold owed queries
  iintro ⟨Hz, ⟨%W', HO⟩, Hscr, H0, H1, H2, H3⟩
  unfold bodyPost Φ₁ Dat.owesAt Pipeline.owesWithin
  rw [show (dats m ρ 0 c).owed t0_0.succ = 0 from rfl]
  isplitl [Hz Hscr]
  · isplitl [Hz]; · iexact Hz
    iexact Hscr
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 4000 in
theorem body_obligation (c : Dev nD) : BodyObligation (dats (F := F) m ρ 0 c) (defs₀ (F := F)) 𝒱₀ 0 Set.univ := fun t => by
  rw [fin_N0 t]
  rw [bigSep_W0, bigSep_W0]
  simp only [owns_stg]
  show bodyPre m ρ c ⊢ run c printed (fun _ => bodyPost m ρ c)
  exact sound_body m ρ c

/-! ## The global step -/

def u₀ : UU := (initOf (Pipeline.cells cfgs cellOf_inj) (Pipeline.launchToks cfgs cellOf_inj), initOf ringCells ringToks)

/-- What the launch deals device `c` (`G`) and what the global step makes of it (`G'`). -/
def G (c : Dev nD) : sProp 𝕄 :=
  iprop((bigSep Finset.univ fun k : CK => roundState ER (Rd (blocksOf m)) (cel c k) 0)
    ∗ (bigSep Finset.univ (at_ (F := F) c fun _ => 0) ∗ bigSep Finset.univ fun k : CK => reached ER (cel c k) 0)
    ∗ bigSep Finset.univ fun j : Duty => tok (F := F) (tokOf c j))
/-- The invariants and the reached marks of all the cells. -/
def facts (K : Dev nD × CK → ℕ) : sProp 𝕄 :=
  iprop((bigSep Finset.univ fun ck : Dev nD × CK => cellInv ER (Rd (blocksOf m)) (K ck) (cel ck.1 ck.2))
    ∗ bigSep Finset.univ fun ck : Dev nD × CK => reached ER (cel ck.1 ck.2) 0)
instance facts_persistent (K : Dev nD × CK → ℕ) : BI.Persistent (facts m K) := by unfold facts; infer_instance
def G' (c : Dev nD) : sProp 𝕄 := iprop((∃ K, facts m K) ∗ bigSep Finset.univ (at_ (F := F) c fun _ => 0) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (cel c k) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun j : Duty => tok (F := F) (tokOf c j) := by
    unfold ringToks; rw [bigSep_map, bigSep_univ_prod]; rfl
  iintro HX
  imod (Rounds.fund ER (Rd (blocksOf m)) ringCells ringToks) $$ HX with ⟨Hst, Hr, Hat, Htok⟩
  imodintro
  ihave Hst' := (Entails.of_eq (hX fun g => roundState ER (Rd (blocksOf m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd (blocksOf m)) κ (cel c k)))
          ∗ (bigSep Finset.univ fun k : CK => reached ER (cel c k) 0) ∗ bigSep Finset.univ (at_ (F := F) c fun _ => 0) ∗ toks c) := by
  unfold G
  iintro ⟨Hos, Hus, Hst, ⟨Hat, Hr⟩, Htok⟩
  ihave Hv := (Entails.of_eq (sems0_eq (F := F) c).symm) $$ [Hos Hus]
  · isplitl [Hus] <;> iassumption
  ihave Htok := (toks_intro c) $$ Htok
  imod (show iprop((bigSep Finset.univ fun k : CK => semVal (cel c k) 0) ∗ bigSep Finset.univ fun k : CK => roundState ER (Rd (blocksOf m)) (cel c k) 0)
      ⊢ (|={Set.univ}=> bigSep Finset.univ fun k : CK => iprop(∃ κ : ℕ, cellInv ER (Rd (blocksOf m)) κ (cel c k)) : sProp 𝕄) from by
        rw [← bigSep_sep']
        exact (bigSep_mono fun k _ => (Rounds.body_intro ER (Rd (blocksOf m)) (cel c k)).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

theorem regroup :
    (bigSep Finset.univ fun c : Dev nD => iprop((bigSep Finset.univ fun k : CK => iprop(∃ κ : ℕ, cellInv ER (Rd (blocksOf m)) κ (cel c k)))
          ∗ (bigSep Finset.univ fun k : CK => reached ER (cel c k) 0) ∗ bigSep Finset.univ (at_ (F := F) c fun _ => 0) ∗ toks c) : sProp 𝕄)
      ⊢ bigSep Finset.univ (G' m) := by
  rw [bigSep_sep', bigSep_sep', ← bigSep_univ_prod (fun ck : Dev nD × CK => iprop(∃ κ : ℕ, cellInv ER (Rd (blocksOf m)) κ (cel ck.1 ck.2))),
    ← bigSep_univ_prod (fun ck : Dev nD × CK => (reached ER (cel ck.1 ck.2) 0 : sProp 𝕄))]
  iintro ⟨HI, HR, Hl⟩
  ihave HK := (BI.bigSep_exists_pi Finset.univ (fun (ck : Dev nD × CK) (κ : ℕ) => (cellInv ER (Rd (blocksOf m)) κ (cel ck.1 ck.2) : sProp 𝕄))) $$ HI
  icases HK with ⟨%K, HI⟩
  have hone (c : Dev nD) : iprop(facts m K ∗ (bigSep Finset.univ (at_ (F := F) c fun _ => 0) ∗ toks c)) ⊢ G' m c := by
    unfold G'
    iintro ⟨#HF, Hl⟩
    isplitr; · iexists K; iexact HF
    iexact Hl
  have hall : iprop(facts m K ∗ bigSep Finset.univ fun c : Dev nD => iprop(bigSep Finset.univ (at_ (F := F) c fun _ => 0) ∗ toks c)) ⊢ bigSep Finset.univ (G' m) :=
    (sep_mono_left (BI.bigSep_of_persistent (Finset.univ : Finset (Dev nD)) (facts m K))).trans
      (by rw [← bigSep_sep']; exact bigSep_mono fun c _ => hone c)
  iapply hall
  isplitr [Hl]
  · unfold facts
    isplitl [HI]; · iexact HI
    iexact HR
  iexact Hl

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' facts start ctx levs
  iintro ⟨-, Hlev, Hcr, -, ⟨⟨%K, HI, HR⟩, Hat, Htok⟩⟩
  ihave Hcr := (creds_intro (F := F) c) $$ Hcr
  imodintro
  isplitl
  · isplitl [HI HR Hlev]
    · iexists K
      isplitl [HI]; · iexact HI
      isplitl [Hlev]; · iexact Hlev
      iexact HR
    isplitl [Hat]; · iexact Hat
    iapply (supply_intro c)
    isplitl [Htok]; · iexact Htok
    iexact Hcr
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [sems0_eq]
  iintro ⟨⟨Hu, Ho⟩, Hr⟩
  isplitl [Hu]; · iexact Hu
  isplitl [Ho]; · iexact Ho
  iexact Hr

theorem kindOf_none (sm : SemLoc sig) (h : ∀ k ∈ ckAll, csem k ≠ sm) : kindOf sm = none :=
  dif_neg fun ⟨k, hk⟩ => h k (mem_ckAll k) hk

theorem stage_sem (w : Fin 4) (s : Fin (cfg0.win w).nbuf) : ∀ k ∈ ckAll, csem k ≠ .dma ((cfg0.win w).sem s) := by
  fin_cases w <;> fin_cases s <;> decide

theorem stage_waits (c : Dev nD) : (levAts L lv : sProp 𝕄) ⊢ Pipeline.cellsWaits cfgs (dats m ρ) 0 0 c :=
  Pipeline.cellsWaits_intro cfgs (dats m ρ) 0 0 c fun w s t =>
    mayWait c _ 0 (by omega) (b := 1) _
      (by
        rcases t with ⟨_ | _, ht⟩
        · exact above_start c
        · exact Above.zero 1)
      (by
        unfold lv
        rw [kindOf_none _ (stage_sem w s)]
        exact Nat.one_pos)

theorem share_eq (c : Dev nD) (w : Fin cfg0.W) : (dats m ρ 0 c).share w = fullShare := by unfold Dat.share; split <;> rfl

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every fair execution of `@main` on the sixteen devices ends, each device's result
    array at the computed block, its three arguments unchanged and every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring
end
-- ==== Proof.KI.Final.lean ====
/-
# The final states of the run

The three argument arrays are as they were; the result array of device `c` holds the block the sixteen updates leave.
-/
module

public import proofs.«01_k».proof.Proof.KI.Launch

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.Sem

variable {F : FTy → Type} [FloatOps F] [Named F]
variable (m : (ℓ : Loc nD τ sig) → Buf (Elt F) ℓ) (ρ : Dev nD → PrngReg)

theorem qryOf_eq (c : Dev nD) : qryOf m c = m ((c : Thread nD τ).loc main_arg0) :=
  Memref.read_access_unit_zero (Elt F) main_arg0 (funext fun a => by fin_cases a <;> decide) (fun a => by fin_cases a <;> decide) _

theorem keys_eq (c : Dev nD) : blocksOf m 0 c = m ((c : Thread nD τ).loc main_arg1) :=
  Memref.read_access_unit_zero (Elt F) main_arg1 (funext fun a => by fin_cases a <;> decide) (fun a => by fin_cases a <;> decide) _

theorem values_eq (c : Dev nD) : blocksOf m 1 c = m ((c : Thread nD τ).loc main_arg2) :=
  Memref.read_access_unit_zero (Elt F) main_arg2 (funext fun a => by fin_cases a <;> decide) (fun a => by fin_cases a <;> decide) _

theorem result_eq (c : Dev nD) : finalA m ρ c (3 : Fin 4) = resultOf m c := by
  have hr := fun f => Memref.read_access_unit_zero (Elt F) main_v1
    (show (fun a => (win0_3.index (0 : Fin 1)) a * main_v1.ty.shape.size a) = fun _ => 0 from funext fun a => by fin_cases a <;> decide)
    (fun a => by fin_cases a <;> decide) f
  have ho : (win0_3.blk (0 : Fin 1)).view.read (Elt F) (finalA m ρ c (3 : Fin 4)) = resultOf m c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  exact (hr _).symm.trans ho

/-- From any memory with zero counters every fair execution ends, each device's result array holding its block, its
    arguments unchanged and every counter zero. -/
theorem run_values : θ_run defs (onTc (τ := τ) (main (F := F))) ⟨m, fun _ => 0, ρ⟩ (fun r =>
    (∀ c : Dev nD, r.2.mem ((c : Thread nD τ).loc main_v1) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run defs _ _).mono (fun _ h =>
    ⟨fun c => ⟨(h.1 c (3 : Fin 4)).trans (result_eq m ρ c),
      (h.1 c (0 : Fin 4)).trans ((dats m ρ 0 c).arrAt_in (0 : Fin 4) rfl _),
      (h.1 c (1 : Fin 4)).trans ((dats m ρ 0 c).arrAt_in (1 : Fin 4) rfl _),
      (h.1 c (2 : Fin 4)).trans ((dats m ρ 0 c).arrAt_in (2 : Fin 4) rfl _)⟩, h.2⟩) (run_main m ρ)

end Cert.KernelIdeal.Ring
end
-- ==== Proof.K.Frame.lean ====
/-
# The printed program's run

The program as printed and the one over the named constant differ in one spelling: the softmax scale is its printed digits
in the one and a name in the other. At the operations that read a name as its digits the two are the same program, so the
run proved of the second is the first's.
-/
module

public import proofs.«01_k».proof.Proof.KI.Final
public import proofs.«01_k».proof.Proof.Gen.Kernel

@[expose] public section

noncomputable section

namespace Cert.Kernel.Ring

open Idealize.ShloMosaic Idealize.ShloMosaic.TcCoe Idealize.SL.Sem

/-- A named constant read as its printed digits. -/
local instance literal {F : FTy → Type} [FloatOps F] : Named F := ⟨fun _ _ _ bits => Scalar.ofBits _ bits⟩

variable {F : FTy → Type} [FloatOps F]

/-- The two printed programs have one kernel. -/
theorem body_eq : @Cert.Kernel.cc0_body F _ _ = @Cert.KernelIdeal.cc0_body F _ _ _ := rfl

theorem defs₀_eq : @Cert.Kernel.defs₀ F _ _ = @Cert.KernelIdeal.defs₀ F _ _ _ := by
  unfold Cert.Kernel.defs₀ Cert.KernelIdeal.defs₀
  refine congrArg Defs.onTc (funext fun i => funext fun x => ?_)
  match i, x with
  | 0, (t, s) => rfl
  | ⟨_ + 1, h⟩, _ => exact absurd h (Nat.not_lt.2 (Nat.le_add_left _ _))

theorem defs_eq : Cert.Kernel.defs (F := F) = Cert.KernelIdeal.defs (F := F) := by
  unfold Cert.Kernel.defs Cert.KernelIdeal.defs
  rw [defs₀_eq]
  rfl

theorem main_eq : Cert.Kernel.main (F := F) = Cert.KernelIdeal.main (F := F) := rfl

/-- From any memory with zero counters every fair execution ends, each device's arguments unchanged and every counter
    zero. -/
theorem run_kept (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) := by
  rw [defs_eq, main_eq]
  exact (θ_run _ _ _).mono (fun _ h => ⟨fun c => (h.1 c).2, h.2⟩) (Cert.KernelIdeal.Ring.run_values m ρ)

end Cert.Kernel.Ring
end
-- ==== Proof.Value.Literals.lean ====
/-
# The float constants of the programs, as extended reals

The extremes that start a maximum or bound a comparison, and the 512 whose square root divides the scores.
-/
module

public import Idealize.ShloMosaic.PureOps.Ideal

@[expose] public section

noncomputable section

namespace Cert.Literals

open Idealize.ShloMosaic

theorem lowest_f32 : Ideal.ofBits .f32 0xFF800000#32 = ⊥ := by simp [Ideal.ofBits, Ideal.ieee]
theorem lowest_bf16 : Ideal.ofBits .bf16 0xFF80#16 = ⊥ := by simp [Ideal.ofBits, Ideal.ieee]
theorem highest_bf16 : Ideal.ofBits .bf16 0x7F80#16 = ⊤ := by simp [Ideal.ofBits, Ideal.ieee]
theorem width_f32 : Ideal.ofBits .f32 0x44000000#32 = ((512 : ℝ) : EReal) := by
  simp [Ideal.ofBits, Ideal.ieee, -EReal.coe_mul]; norm_num

end Cert.Literals
-- ==== Proof.Value.Finite.lean ====
/-
# What the precondition says

Every element of a device's queries and keys is a real.
-/
module

public import proofs.«01_k».proof.Proof.Gen.Pre_finite_scores_KernelIdeal
public import proofs.«01_k».proof.Proof.Value.Literals
public import Idealize.ShloMosaic.Lib.ReduceAll

@[expose] public section

noncomputable section

namespace Cert.Pre_finite_scores_KernelIdeal.Read

open Cert.Pre_finite_scores_KernelIdeal Cert.Pre_finite_scores_KernelIdeal.Facts
open Idealize.ShloMosaic

variable [Cert.Pre_finite_scores_KernelIdeal.Facts]

/-- Above `⊥` and below `⊤` lies a real. -/
theorem real_of_between {x : EReal} (h : ⊥ < x) (h' : x < ⊤) : ∃ r : ℝ, x = (r : EReal) :=
  ⟨x.toReal, (EReal.coe_toReal h'.ne h.ne').symm⟩

/-- The two comparisons of an element with the infinities. -/
theorem real_of_compare (x : FVec Ideal S4096x512 .bf16) (i : S4096x512.Idx)
    (h : andi (cmpf .ogt x (broadcastInDim S4096x512 ![] bcast_S_S4096x512 (constant S_ .bf16 0xFF80#16)))
      (cmpf .olt x (broadcastInDim S4096x512 ![] bcast_S_S4096x512 (constant S_ .bf16 0x7F80#16))) i = 1#1) :
    ∃ r : ℝ, x i = (r : EReal) := by
  obtain ⟨hl, hh⟩ := IntOp.andi_eq_one.1 h
  replace hl : BitVec.ofBool (decide (Ideal.ofBits .bf16 0xFF80#16 < x i)) = 1#1 := hl
  replace hh : BitVec.ofBool (decide (x i < Ideal.ofBits .bf16 0x7F80#16)) = 1#1 := hh
  rw [Cert.Literals.lowest_bf16] at hl
  rw [Cert.Literals.highest_bf16] at hh
  refine real_of_between ?_ ?_
  · by_contra hn; rw [decide_eq_false hn] at hl; exact absurd hl (by decide)
  · by_contra hn; rw [decide_eq_false hn] at hh; exact absurd hh (by decide)

instance : Subsingleton S_.Idx := ⟨fun _ _ => funext fun a => a.elim0⟩

/-- The precondition at queries, keys and values. -/
theorem reals (q k v : FVec Ideal S4096x512 .bf16) (h : fn (F := Ideal) q k v = fun _ => 1#1) :
    (∀ i, ∃ r : ℝ, q i = (r : EReal)) ∧ ∀ i, ∃ r : ℝ, k i = (r : EReal) := by
  have h0 := congrFun h (fun a => a.elim0)
  obtain ⟨hq, hk⟩ := IntOp.andi_eq_one.1 h0
  exact ⟨fun i => real_of_compare q i (Host.reduce_andi_all _ _ _ _ _ hq i),
    fun i => real_of_compare k i (Host.reduce_andi_all _ _ _ _ _ hk i)⟩

end Cert.Pre_finite_scores_KernelIdeal.Read
-- ==== Proof.Value.Online.lean ====
/-
# Softmax taken a part at a time

A row has one real score and one extended real value per key. Over a set of keys it has the largest score, the sum of
the weights `exp (score − largest)`, and the sum of the weighted values. Joining a further set of keys to those seen
multiplies both sums by `exp (old largest − new largest)` and adds the new keys' own. Over all keys, dividing the sum of
weighted values by the sum of weights is weighting the values by the divided weights.
-/
module

public import Idealize.ShloMosaic.PureOps.Ideal
public import Idealize.ShloMosaic.PureOps.Ideal.Laws
public import Idealize.ShloMosaic.Lib.IdealHost

@[expose] public section

noncomputable section

namespace Cert.Softmax

open Idealize.ShloMosaic

variable {ι : Type} [DecidableEq ι] (s : ι → ℝ) (v : ι → EReal)

/-- The largest score of a set of keys, `⊥` for none. -/
def top (J : Finset ι) : EReal := J.sup fun j => (s j : EReal)

/-- What a key weighs against the largest score of a set. -/
def weight (J : Finset ι) (j : ι) : EReal := Ideal.exp ((s j : EReal) - top s J)

/-- The sum of the weights, -/
def mass (J : Finset ι) : EReal := ∑ j ∈ J, weight s J j

/-- and of the weighted values. -/
def blend (J : Finset ι) : EReal := ∑ j ∈ J, weight s J j * v j

theorem top_empty : top s ∅ = ⊥ := rfl
theorem mass_empty : mass s ∅ = 0 := rfl
theorem blend_empty : blend s v ∅ = 0 := rfl

theorem top_union (J P : Finset ι) : top s (J ∪ P) = max (top s J) (top s P) := Finset.sup_union

/-- Over some keys the largest score is one of them, so a real. -/
theorem top_real {J : Finset ι} (h : J.Nonempty) : ∃ r : ℝ, top s J = (r : EReal) := by
  obtain ⟨j, _, hj⟩ := Finset.exists_mem_eq_sup J h fun j => (s j : EReal)
  exact ⟨s j, hj⟩

/-- Multiplication by a real that is not negative goes into a sum. -/
theorem sum_mul_real (J : Finset ι) (f : ι → EReal) {r : ℝ} (hr : 0 ≤ r) :
    (∑ j ∈ J, f j) * (r : EReal) = ∑ j ∈ J, f j * (r : EReal) := by
  induction J using Finset.induction_on with
  | empty => simp
  | insert j J hj ih =>
    rw [Finset.sum_insert hj, Finset.sum_insert hj,
      EReal.right_distrib_of_nonneg_of_ne_top (EReal.coe_nonneg.mpr hr) (EReal.coe_ne_top r), ih]

/-- A sum of reals is a real. -/
theorem coe_sum (J : Finset ι) (f : ι → ℝ) : ((∑ j ∈ J, f j : ℝ) : EReal) = ∑ j ∈ J, (f j : EReal) := by
  induction J using Finset.induction_on with
  | empty => rfl
  | insert j J hj ih => rw [Finset.sum_insert hj, Finset.sum_insert hj, EReal.coe_add, ih]

theorem exp_coe_sub (a b : ℝ) : Ideal.exp ((a : EReal) - (b : EReal)) = ((Real.exp (a - b) : ℝ) : EReal) := by
  rw [← EReal.coe_sub]; rfl

/-- A change of the largest score scales every weight alike. -/
theorem weight_scale {J U : Finset ι} (hJ : J.Nonempty) (hU : U.Nonempty) (j : ι) :
    weight s J j * Ideal.exp (top s J - top s U) = weight s U j := by
  obtain ⟨a, ha⟩ := top_real s hJ
  obtain ⟨b, hb⟩ := top_real s hU
  unfold weight
  rw [ha, hb, exp_coe_sub, exp_coe_sub, exp_coe_sub, ← EReal.coe_mul, ← Real.exp_add]
  congr 2; ring

/-- A sum over the keys seen, scaled, with the sum over the new ones. -/
theorem sum_join (f : ι → EReal) (J P : Finset ι) (hP : P.Nonempty) (hd : Disjoint J P) :
    (∑ j ∈ J, weight s J j * f j) * Ideal.exp (top s J - top s (J ∪ P)) + ∑ j ∈ P, weight s (J ∪ P) j * f j
      = ∑ j ∈ J ∪ P, weight s (J ∪ P) j * f j := by
  rw [Finset.sum_union hd]
  congr 1
  have hU : (J ∪ P).Nonempty := hP.mono Finset.subset_union_right
  rcases J.eq_empty_or_nonempty with rfl | hJ
  · simp
  · have hs := weight_scale s hJ hU
    obtain ⟨a, ha⟩ := top_real s hJ
    obtain ⟨b, hb⟩ := top_real s hU
    rw [ha, hb, exp_coe_sub] at hs ⊢
    rw [sum_mul_real _ _ (Real.exp_pos _).le]
    refine Finset.sum_congr rfl fun j _ => ?_
    rw [mul_right_comm, hs]

theorem blend_join (J P : Finset ι) (hP : P.Nonempty) (hd : Disjoint J P) :
    blend s v J * Ideal.exp (top s J - top s (J ∪ P)) + ∑ j ∈ P, weight s (J ∪ P) j * v j = blend s v (J ∪ P) :=
  sum_join s v J P hP hd

theorem mass_join (J P : Finset ι) (hP : P.Nonempty) (hd : Disjoint J P) :
    mass s J * Ideal.exp (top s J - top s (J ∪ P)) + ∑ j ∈ P, weight s (J ∪ P) j = mass s (J ∪ P) := by
  simpa [mass] using sum_join s (fun _ => 1) J P hP hd

/-- The sum of the weights of some keys is a positive real. -/
theorem mass_real {J : Finset ι} (h : J.Nonempty) : ∃ r : ℝ, 0 < r ∧ mass s J = (r : EReal) := by
  obtain ⟨a, ha⟩ := top_real s h
  refine ⟨∑ j ∈ J, Real.exp (s j - a), Finset.sum_pos (fun j _ => Real.exp_pos _) h, ?_⟩
  unfold mass weight
  rw [ha]
  simp only [exp_coe_sub]
  exact (coe_sum _ _).symm

/-- Dividing the weighted values' sum is weighting the values by the divided weights. -/
theorem blend_div {J : Finset ι} (h : J.Nonempty) :
    Ideal.div (blend s v J) (mass s J) = ∑ j ∈ J, Ideal.div (weight s J j) (mass s J) * v j := by
  obtain ⟨r, hr, hm⟩ := mass_real s h
  rw [hm, Ideal.div_coe hr.ne']
  unfold blend
  rw [sum_mul_real _ _ (by positivity : (0:ℝ) ≤ 1 / r)]
  refine Finset.sum_congr rfl fun j _ => ?_
  rw [Ideal.div_coe hr.ne', mul_right_comm]

end Cert.Softmax
-- ==== Proof.Value.Column.lean ====
/-
# Row results as columns

A reduction along the rows of a matrix gives a vector; both programs lay it out as a column and repeat it along the
rows. Here each step is read at an index.
-/
module

public import proofs.«01_k».proof.Proof.Value.Literals
public import Idealize.ShloMosaic.Lib.Pipeline.Value
public import Idealize.ShloMosaic.Lib.MatmulPlain
public import Idealize.ShloMosaic.Lib.ValueIdx

@[expose] public section

noncomputable section

namespace Cert.Softmax

open Idealize.ShloMosaic Idealize.ShloMosaic.ValueIdx

/-- The index of a row result with the summed coordinate put back. -/
theorem lift_row {n m : ℕ} (h : (⟨2, ![n, m]⟩ : Shape).Reduces [1] ⟨1, ![n]⟩) (r : Fin n) (p : Fin m) :
    h.lift (ix1 r) p = ix2 r p := by
  funext a
  match a with
  | ⟨0, _⟩ => rfl
  | ⟨1, _⟩ => rfl

/-- A vector as a column. -/
theorem column_apply {α : Type} {n : ℕ} (x : (⟨1, ![n]⟩ : Shape).Idx → α) (h : (⟨1, ![n]⟩ : Shape).ShapeCasts ⟨2, ![n, 1]⟩)
    (r : Fin n) : shapeCast ⟨2, ![n, 1]⟩ x h (ix2 r (0 : Fin 1)) = x (ix1 r) :=
  shapeCast_apply x h _ _ (by
    rw [Shape.rowMajor_val_two, Shape.rowMajor_val_one]
    show r.val = r.val * 1 + 0
    omega)

/-- A column repeated along the rows. -/
theorem repeated_apply {α : Type} {n m : ℕ} (x : (⟨2, ![n, 1]⟩ : Shape).Idx → α) (h : (⟨2, ![n, 1]⟩ : Shape).Broadcasts ⟨2, ![n, m]⟩)
    (r : Fin n) (p : Fin m) : broadcastTo ⟨2, ![n, m]⟩ x h (ix2 r p) = x (ix2 r (0 : Fin 1)) := by
  refine broadcastTo_apply x h (ix2 r p) (ix2 r (0 : Fin 1)) fun a => ?_
  match a with
  | ⟨0, _⟩ =>
    show r.val = if n = 1 then 0 else r.val
    split
    · have := r.isLt; omega
    · rfl
  | ⟨1, _⟩ => rfl

/-- The host's column of a vector, -/
theorem hostColumn_apply {α : Type} {n : ℕ} (x : (⟨1, ![n]⟩ : Shape).Idx → α) (h : (⟨1, ![n]⟩ : Shape).BroadcastsInDim ⟨2, ![n, 1]⟩ ![0])
    (r : Fin n) : broadcastInDim ⟨2, ![n, 1]⟩ ![0] h x (ix2 r (0 : Fin 1)) = x (ix1 r) := by
  refine broadcastInDim_apply ![0] h x _ (ix1 r) fun a => ?_
  match a with
  | ⟨0, _⟩ =>
    show r.val = if n = 1 then 0 else r.val
    split
    · have := r.isLt; omega
    · rfl

/-- and the column repeated. -/
theorem hostRepeated_apply {α : Type} {n m : ℕ} (x : (⟨2, ![n, 1]⟩ : Shape).Idx → α)
    (h : (⟨2, ![n, 1]⟩ : Shape).BroadcastsInDim ⟨2, ![n, m]⟩ ![0, 1]) (r : Fin n) (p : Fin m) :
    broadcastInDim ⟨2, ![n, m]⟩ ![0, 1] h x (ix2 r p) = x (ix2 r (0 : Fin 1)) := by
  refine broadcastInDim_apply ![0, 1] h x _ (ix2 r (0 : Fin 1)) fun a => ?_
  match a with
  | ⟨0, _⟩ =>
    show r.val = if n = 1 then 0 else r.val
    split
    · have := r.isLt; omega
    · rfl
  | ⟨1, _⟩ => rfl

/-- The reciprocal of the square root of 512. -/
def scale : EReal := (((Real.sqrt 512)⁻¹ : ℝ) : EReal)

/-- Dividing by the square root of the literal 512 is multiplying by it. -/
theorem div_sqrt (x : EReal) : Ideal.div x (Ideal.sqrt (Ideal.ofBits .f32 0x44000000#32)) = x * scale := by
  have h : (0 : ℝ) < Real.sqrt 512 := Real.sqrt_pos.mpr (by norm_num)
  rw [Cert.Literals.width_f32, show Ideal.sqrt ((512 : ℝ) : EReal) = ((Real.sqrt 512 : ℝ) : EReal) from
    if_neg (by norm_num), Ideal.div_coe h.ne', one_div]
  rfl

end Cert.Softmax
-- ==== Proof.Value.Payload.lean ====
/-
# One trip's values, at an index

What the payloads of a trip hold in the extended reals, row by row: the scores, the largest of them, the two sums.
-/
module

public import proofs.«01_k».proof.Proof.KI.Update
public import proofs.«01_k».proof.Proof.Value.Online
public import proofs.«01_k».proof.Proof.Value.Column
public import Idealize.ShloMosaic.Lib.MatmulPlain
public import Idealize.ShloMosaic.Lib.ValueIdx

@[expose] public section

noncomputable section

namespace Cert.KernelIdeal.Ring

open Cert.KernelIdeal Cert.KernelIdeal.Gen
open Idealize.ShloMosaic Idealize.ShloMosaic.ValueIdx

open Cert.Softmax

/-- The score of row `r` against key `p`. -/
def scoreOf {n : ℕ} (x : (⟨2, ![n, 512]⟩ : Shape).Idx → EReal) (k : S4096x512.Idx → EReal) (r : Fin n) (p : Fin 4096) : EReal :=
  (∑ d : Fin 512, x (ix2 r d) * k (ix2 p d)) * scale

/-- A row's largest score joined to the largest before. -/
def topOf (m : EReal) (s : Fin 4096 → EReal) : EReal := max m (Finset.univ.sup s)

variable (qr : S512x512.Idx → EReal) (k v : S4096x512.Idx → EReal) (mr lr : S512x1.Idx → EReal) (ar : S512x512.Idx → EReal)

theorem unslot (k : S4096x512.Idx → Elt Ideal .bf16) (h) : shapeCast S4096x512 (slotted (F := Ideal) k) h = k := by
  funext i
  obtain ⟨p, e, rfl⟩ : ∃ (p : Fin 4096) (e : Fin 512), i = ix2 p e := ⟨i 0, i 1, eq_ix2 i⟩
  rw [shapeCast_1ab_ab_apply]; rfl

theorem score_apply (r : Fin 512) (p : Fin 4096) :
    k0_pay4 (F := Ideal) qr (slotted (F := Ideal) k) (ix2 r p) = scoreOf qr k r p := by
  unfold k0_pay4
  rw [mulf_apply, shapeCast_self, unslot]
  show FloatOps.matmul (DotDims.transposedRhs 512 512 4096) _ _ _ _ _ * _ = _
  rw [Ideal.matmul_transposedRhs_apply]
  show (Ideal.ofBits .f32 0x00000000#32 + _) * scale = _
  rw [Ideal.ofBits_zero_f32, zero_add]
  rfl

theorem top_apply (r : Fin 512) :
    k0_pay5 (F := Ideal) qr (slotted (F := Ideal) k) mr (ix2 r 0) = topOf (mr (ix2 r 0)) (scoreOf qr k r) := by
  unfold k0_pay5
  rw [maximumf_apply, column_apply]
  refine congrArg (max _) ((Ideal.multiReduction_maximumf_single (k0_pay4 (F := Ideal) qr (slotted (F := Ideal) k)) _ _ _ _ _).trans ?_)
  show Finset.fold max (Ideal.ofBits .f32 0xFF800000#32) _ _ = Finset.fold max ⊥ _ _
  rw [Cert.Literals.lowest_f32]
  refine Finset.fold_congr fun p _ => ?_
  exact (congrArg _ (lift_row _ r p)).trans (score_apply qr k r p)

theorem weight_apply (r : Fin 512) (p : Fin 4096) :
    k0_pay6 (F := Ideal) qr (slotted (F := Ideal) k) mr (ix2 r p)
      = Ideal.exp (scoreOf qr k r p - topOf (mr (ix2 r 0)) (scoreOf qr k r)) := by
  unfold k0_pay6
  show Ideal.exp (k0_pay4 (F := Ideal) _ _ (ix2 r p) - _) = _
  rw [repeated_apply, score_apply, top_apply]

theorem shrink_apply (r : Fin 512) :
    k0_pay7 (F := Ideal) qr (slotted (F := Ideal) k) mr (ix2 r 0)
      = Ideal.exp (mr (ix2 r 0) - topOf (mr (ix2 r 0)) (scoreOf qr k r)) := by
  unfold k0_pay7
  show Ideal.exp (_ - k0_pay5 (F := Ideal) _ _ _ (ix2 r 0)) = _
  rw [top_apply]

theorem mass_apply (r : Fin 512) :
    k0_pay8 (F := Ideal) qr (slotted (F := Ideal) k) mr lr (ix2 r 0)
      = lr (ix2 r 0) * Ideal.exp (mr (ix2 r 0) - topOf (mr (ix2 r 0)) (scoreOf qr k r))
        + ∑ p, Ideal.exp (scoreOf qr k r p - topOf (mr (ix2 r 0)) (scoreOf qr k r)) := by
  unfold k0_pay8
  rw [shapeCast_self, addf_apply, column_apply, mulf_apply, shrink_apply]
  refine congrArg (_ + ·) ((Ideal.multiReduction_add_single (k0_pay6 (F := Ideal) qr (slotted (F := Ideal) k) mr) _ _ _ _ _).trans ?_)
  refine Finset.sum_congr rfl fun p _ => ?_
  exact (congrArg _ (lift_row _ r p)).trans (weight_apply qr k mr r p)

theorem blend_apply (r e : Fin 512) :
    k0_pay9 (F := Ideal) qr (slotted (F := Ideal) k) mr ar (slotted (F := Ideal) v) (ix2 r e)
      = ar (ix2 r e) * Ideal.exp (mr (ix2 r 0) - topOf (mr (ix2 r 0)) (scoreOf qr k r))
        + ∑ p, Ideal.exp (scoreOf qr k r p - topOf (mr (ix2 r 0)) (scoreOf qr k r)) * v (ix2 p e) := by
  unfold k0_pay9
  rw [addf_apply, mulf_apply, repeated_apply, shrink_apply, unslot]
  congr 1
  show FloatOps.matmul (DotDims.plain 512 4096 512) _ _ _ _ _ = _
  rw [Ideal.matmul_plain_apply]
  show Ideal.ofBits .f32 0x00000000#32 + _ = _
  rw [Ideal.ofBits_zero_f32, zero_add]
  refine Finset.sum_congr rfl fun p _ => ?_
  exact congrArg (· * _) (weight_apply qr k mr r p)

end Cert.KernelIdeal.Ring
-- ==== Proof.Value.Row.lean ====
/-
# The block update, row by row

The update of the running values by a block of keys and values acts on each of the 4096 query rows apart.
-/
module

public import proofs.«01_k».proof.Proof.Value.Payload

@[expose] public section

noncomputable section

namespace Cert.KernelIdeal.Ring

open Cert.KernelIdeal Cert.KernelIdeal.Gen Cert.Softmax
open Idealize.ShloMosaic Idealize.ShloMosaic.ValueIdx

/-- One row of the running values. -/
@[ext] structure Row where
  m : EReal
  l : EReal
  a : Fin 512 → EReal

/-- Row `r` of the running values. -/
def rowOf (S : St Ideal) (r : Fin 4096) : Row := ⟨S.m (ix2 r 0), S.l (ix2 r 0), fun e => S.a (ix2 r e)⟩

/-- A row joined to a block: `s` has the row's scores against the block's keys, `v` the block's values. -/
def joinRow (s : Fin 4096 → EReal) (v : S4096x512.Idx → EReal) (R : Row) : Row where
  m := topOf R.m s
  l := R.l * Ideal.exp (R.m - topOf R.m s) + ∑ p, Ideal.exp (s p - topOf R.m s)
  a e := R.a e * Ideal.exp (R.m - topOf R.m s) + ∑ p, Ideal.exp (s p - topOf R.m s) * v (ix2 p e)

/-! ## Where a trip's rows lie -/

theorem trips_eq : k0_t1_loop.trips = 8 := by decide

/-- Row `r` of trip `t`. -/
def rowAt (t : Fin k0_t1_loop.trips) (r : Fin 512) : Fin 4096 :=
  ⟨512 * t.val + r.val, by have := t.isLt; have := trips_eq; omega⟩

theorem rows_emb (t : Fin k0_t1_loop.trips) (r e : Fin 512) : (rows t).emb (ix2 r e) = ix2 (rowAt t r) e := by
  funext a
  apply Fin.ext
  match a with
  | ⟨0, _⟩ => show k0_off1 t 0 + 1 * r.val = _; rw [k0_off1_eq]; show 512 * t.val + 1 * r.val = 512 * t.val + r.val; omega
  | ⟨1, _⟩ => show k0_off1 t 1 + 1 * e.val = _; rw [k0_off1_eq]; show 0 + 1 * e.val = e.val; omega

theorem col_emb (t : Fin k0_t1_loop.trips) (r : Fin 512) : (col t).emb (ix2 r 0) = ix2 (rowAt t r) 0 := by
  funext a
  apply Fin.ext
  match a with
  | ⟨0, _⟩ => show k0_off2 t 0 + 1 * r.val = _; rw [k0_off2_eq]; show 512 * t.val + 1 * r.val = 512 * t.val + r.val; omega
  | ⟨1, _⟩ => show k0_off2 t 1 + 1 * 0 = _; rw [k0_off2_eq]; rfl

/-- A trip leaves the rows of the others. -/
theorem rows_other (t : Fin k0_t1_loop.trips) (r : Fin 4096) (e : Fin 512) (h : ¬ r.val / 512 = t.val) (x : S512x512.Idx) :
    (rows t).emb x ≠ ix2 r e := by
  obtain ⟨p, d, rfl⟩ : ∃ (p : Fin 512) (d : Fin 512), x = ix2 p d := ⟨x 0, x 1, eq_ix2 x⟩
  rw [rows_emb]
  intro hx
  have : 512 * t.val + p.val = r.val := congrArg (fun i : S4096x512.Idx => (i 0).val) hx
  omega

theorem col_other (t : Fin k0_t1_loop.trips) (r : Fin 4096) (h : ¬ r.val / 512 = t.val) (x : S512x1.Idx) :
    (col t).emb x ≠ ix2 r 0 := by
  obtain ⟨p, d, rfl⟩ : ∃ (p : Fin 512) (d : Fin 1), x = ix2 p d := ⟨x 0, x 1, eq_ix2 x⟩
  obtain rfl : d = 0 := Subsingleton.elim _ _
  rw [col_emb]
  intro hx
  have : 512 * t.val + p.val = r.val := congrArg (fun i : S4096x1.Idx => (i 0).val) hx
  omega

/-! ## A write, in the trip's rows and off them -/

theorem write_off {κ : Kind} {sp : Space} {s : Shape} {e : EltTy} (v : View sig κ sp s e) (f : v.ty.Contents (Elt Ideal))
    (w : s.Idx → Elt Ideal e) (i : v.ty.Idx) (h : ∀ x, v.emb x ≠ i) : v.write (Elt Ideal) f w Finset.univ i = f i :=
  View.write_of_not_mem _ _ _ (by
    rw [View.setOn_univ]
    intro hm
    obtain ⟨x, _, hx⟩ := Finset.mem_map.mp hm
    exact h x hx)

section Write
variable (t : Fin k0_t1_loop.trips) (f : S4096x1.Idx → EReal) (w : S512x1.Idx → EReal) (g : S4096x512.Idx → EReal)
  (y : S512x512.Idx → EReal)

theorem m_in (r : Fin 512) : (mM.access (col t)).write (Elt Ideal) f w Finset.univ (ix2 (rowAt t r) 0) = w (ix2 r 0) := by
  rw [← col_emb]
  exact (View.write_emb_of_mem (v := mM.access (col t)) (Val := Elt Ideal) f w (Finset.mem_univ _)).trans (cast_eq _ _)
theorem l_in (r : Fin 512) : (lM.access (col t)).write (Elt Ideal) f w Finset.univ (ix2 (rowAt t r) 0) = w (ix2 r 0) := by
  rw [← col_emb]
  exact (View.write_emb_of_mem (v := lM.access (col t)) (Val := Elt Ideal) f w (Finset.mem_univ _)).trans (cast_eq _ _)
theorem a_in (r e : Fin 512) : (accM.access (rows t)).write (Elt Ideal) g y Finset.univ (ix2 (rowAt t r) e) = y (ix2 r e) := by
  rw [← rows_emb]
  exact (View.write_emb_of_mem (v := accM.access (rows t)) (Val := Elt Ideal) g y (Finset.mem_univ _)).trans (cast_eq _ _)

variable (r : Fin 4096) (h : ¬ r.val / 512 = t.val)
include h

theorem m_off : (mM.access (col t)).write (Elt Ideal) f w Finset.univ (ix2 r 0) = f (ix2 r 0) :=
  write_off (mM.access (col t)) f w (ix2 r 0 : S4096x1.Idx) (col_other t r h)
theorem l_off : (lM.access (col t)).write (Elt Ideal) f w Finset.univ (ix2 r 0) = f (ix2 r 0) :=
  write_off (lM.access (col t)) f w (ix2 r 0 : S4096x1.Idx) (col_other t r h)
theorem a_off (e : Fin 512) : (accM.access (rows t)).write (Elt Ideal) g y Finset.univ (ix2 r e) = g (ix2 r e) :=
  write_off (accM.access (rows t)) g y (ix2 r e : S4096x512.Idx) (rows_other t r e h)

end Write

/-! ## One trip -/

variable (q k v : S4096x512.Idx → EReal)

theorem trip_off (t : Fin k0_t1_loop.trips) (S : St Ideal) (r : Fin 4096) (h : ¬ r.val / 512 = t.val) :
    rowOf (tripSt (F := Ideal) q k v t S) r = rowOf S r := by
  refine Row.ext ?_ ?_ (funext fun e => ?_)
  · unfold rowOf tripSt; dsimp only; exact m_off t _ _ r h
  · unfold rowOf tripSt; dsimp only; exact l_off t _ _ r h
  · unfold rowOf tripSt; dsimp only; exact a_off t _ _ r h e

theorem read_score (t : Fin k0_t1_loop.trips) (r : Fin 512) :
    scoreOf (qM.view.readAt (Elt Ideal) (rows t).toLoadRect q) k r = scoreOf q k (rowAt t r) := by
  funext p
  unfold scoreOf
  refine congrArg (· * scale) (Finset.sum_congr rfl fun d _ => congrArg (· * _) ?_)
  exact congrArg q (rows_emb t r d)

theorem trip_in (t : Fin k0_t1_loop.trips) (S : St Ideal) (r : Fin 512) :
    rowOf (tripSt (F := Ideal) q k v t S) (rowAt t r) = joinRow (scoreOf q k (rowAt t r)) v (rowOf S (rowAt t r)) := by
  have hm : mM.view.readAt (Elt Ideal) (col t).toLoadRect S.m (ix2 r 0) = S.m (ix2 (rowAt t r) 0) := congrArg S.m (col_emb t r)
  have hl : lM.view.readAt (Elt Ideal) (col t).toLoadRect S.l (ix2 r 0) = S.l (ix2 (rowAt t r) 0) := congrArg S.l (col_emb t r)
  have ha (e : Fin 512) : accM.view.readAt (Elt Ideal) (rows t).toLoadRect S.a (ix2 r e) = S.a (ix2 (rowAt t r) e) :=
    congrArg S.a (rows_emb t r e)
  refine Row.ext ?_ ?_ (funext fun e => ?_)
  · unfold rowOf tripSt joinRow; dsimp only
    refine (m_in t _ _ r).trans ?_
    unfold k0_pay107
    rw [shapeCast_self, top_apply, read_score, hm]
  · unfold rowOf tripSt joinRow; dsimp only
    refine (l_in t _ _ r).trans ?_
    rw [mass_apply, read_score, hm, hl]
  · unfold rowOf tripSt joinRow; dsimp only
    refine (a_in t _ _ r e).trans ?_
    unfold k0_pay106
    rw [shapeCast_self, blend_apply, read_score, hm, ha]

/-! ## The eight trips -/

theorem trips_row (S : St Ideal) (r : Fin 4096) (n : ℕ) (hn : n ≤ 8) :
    rowOf (tripsSt (F := Ideal) q k v S n) r = if r.val < 512 * n then joinRow (scoreOf q k r) v (rowOf S r) else rowOf S r := by
  induction n with
  | zero => rw [if_neg (by omega)]; rfl
  | succ n ih =>
    have hlt : n < k0_t1_loop.trips := by rw [trips_eq]; omega
    rw [show tripsSt (F := Ideal) q k v S (n + 1) = tripSt q k v ⟨n, hlt⟩ (tripsSt q k v S n) from dif_pos hlt]
    by_cases h : r.val / 512 = n
    · obtain ⟨x, rfl⟩ : ∃ x, r = rowAt ⟨n, hlt⟩ x := ⟨⟨r.val % 512, by omega⟩, Fin.ext (by show r.val = 512 * n + r.val % 512; omega)⟩
      rw [trip_in, ih (by omega), if_neg (by show ¬ 512 * n + x.val < _; omega), if_pos (by show 512 * n + x.val < _; omega)]
    · rw [trip_off _ _ _ _ _ _ h, ih (by omega)]
      by_cases h' : r.val < 512 * n
      · rw [if_pos h', if_pos (by omega)]
      · rw [if_neg h', if_neg (by omega)]

/-- The block update, at a row. -/
theorem update_row (S : St Ideal) (r : Fin 4096) :
    rowOf (updateSt (F := Ideal) q k v S) r = joinRow (scoreOf q k r) v (rowOf S r) := by
  unfold updateSt
  rw [trips_eq, trips_row q k v S r 8 le_rfl, if_pos (by have := r.isLt; omega)]

end Cert.KernelIdeal.Ring
-- ==== Proof.Value.Seen.lean ====
/-
# The keys seen, round by round

At round `n` a device holds, in its block's upper half, rows that come `n` devices from one side and, in its lower half,
rows that come `n` devices from the other. Over the sixteen rounds it holds every key of the ring once.
-/
module

public import proofs.«01_k».proof.Proof.KI.Rounds

@[expose] public section

noncomputable section

namespace Cert.KernelIdeal.Ring

open Cert.KernelIdeal Cert.KernelIdeal.Gen
open Idealize.ShloMosaic Idealize.ShloMosaic.ValueIdx

/-- Which half of a block a row lies in. -/
def halfOf (p : Fin 4096) : Fin 2 := if p.val < 2048 then 0 else 1

/-- Row `r` of device `c`'s block, among all rows. -/
def rowIn (c : Dev nD) (r : Fin 4096) : Fin 65536 :=
  ⟨4096 * c.val + r.val, by have h : c.val < 16 := c.isLt; have := r.isLt; omega⟩

/-- The key that row `p` of the block is at round `n`. -/
def keyAt (c : Dev nD) (n : ℕ) (p : Fin 4096) : Fin 65536 := rowIn (src (halfOf p) c n) p

/-- The keys of a round's block, -/
def part (c : Dev nD) (n : ℕ) : Finset (Fin 65536) := Finset.univ.image (keyAt c n)

/-- and of the blocks of the first `n` rounds. -/
def seen (c : Dev nD) (n : ℕ) : Finset (Fin 65536) := (Finset.range n).biUnion (part c)

theorem rowIn_inj {c d : Dev nD} {p r : Fin 4096} (h : rowIn c p = rowIn d r) : c = d ∧ p = r := by
  have h' : 4096 * c.val + p.val = 4096 * d.val + r.val := congrArg Fin.val h
  have := p.isLt; have := r.isLt
  exact ⟨Fin.ext (by omega), Fin.ext (by omega)⟩

theorem keyAt_inj (c : Dev nD) (n : ℕ) : Function.Injective (keyAt c n) := fun _ _ h => (rowIn_inj h).2

theorem dst_val (b : Fin 2) (c : Dev nD) : (dst b c).val = (c.val + (if b = 0 then 1 else 15)) % 16 := by
  match b with
  | 0 => show k0_dev2 c = _; rw [k0_dev2_eq]; rfl
  | 1 => show k0_dev1 c = _; rw [k0_dev1_eq]; rfl

/-- The device a half comes from, in closed form. -/
theorem src_val (b : Fin 2) (c : Dev nD) (n : ℕ) : (src b c n).val = (c.val + (if b = 0 then 15 else 1) * n) % 16 := by
  induction n generalizing c with
  | zero => have h : c.val < 16 := c.isLt; show c.val = _; omega
  | succ n ih =>
    show (src b (dst (oth b) c) n).val = _
    rw [ih, dst_val]
    match b with
    | 0 => show ((c.val + 15) % 16 + 15 * n) % 16 = (c.val + 15 * (n + 1)) % 16; omega
    | 1 => show ((c.val + 1) % 16 + 1 * n) % 16 = (c.val + 1 * (n + 1)) % 16; omega

/-- No device is met twice, -/
theorem src_inj (b : Fin 2) (c : Dev nD) {m n : ℕ} (hm : m < 16) (hn : n < 16) (h : src b c m = src b c n) : m = n := by
  have h' := congrArg Fin.val h
  rw [src_val, src_val] at h'
  split at h' <;> omega

/-- and every device is met. -/
theorem src_surj (b : Fin 2) (c d : Dev nD) : ∃ n < 16, src b c n = d := by
  have hc : c.val < 16 := c.isLt
  have hd : d.val < 16 := d.isLt
  by_cases hb : b = 0
  · refine ⟨(c.val + 16 - d.val) % 16, by omega, Fin.ext ?_⟩
    rw [src_val, if_pos hb]; omega
  · refine ⟨(d.val + 16 - c.val) % 16, by omega, Fin.ext ?_⟩
    rw [src_val, if_neg hb]; omega

theorem part_nonempty (c : Dev nD) (n : ℕ) : (part c n).Nonempty := Finset.univ_nonempty.image _

theorem seen_succ (c : Dev nD) (n : ℕ) : seen c (n + 1) = seen c n ∪ part c n := by
  unfold seen
  rw [Finset.range_add_one, Finset.biUnion_insert, Finset.union_comm]

theorem seen_disjoint (c : Dev nD) (n : ℕ) (hn : n < 16) : Disjoint (seen c n) (part c n) := by
  refine Finset.disjoint_left.mpr fun j hs hp => ?_
  obtain ⟨m, hm, hj⟩ := Finset.mem_biUnion.mp hs
  obtain ⟨p, _, rfl⟩ := Finset.mem_image.mp hj
  obtain ⟨r, _, hr⟩ := Finset.mem_image.mp hp
  obtain ⟨hsrc, rfl⟩ := rowIn_inj hr
  have hm' := Finset.mem_range.mp hm
  have := src_inj _ c (hm'.trans hn) hn hsrc.symm
  omega

theorem seen_all (c : Dev nD) : seen c 16 = Finset.univ := by
  refine Finset.eq_univ_iff_forall.mpr fun j => ?_
  have hj := j.isLt
  let p : Fin 4096 := ⟨j.val % 4096, by omega⟩
  obtain ⟨n, hn, h⟩ := src_surj (halfOf p) c ⟨j.val / 4096, by show _ < 16; omega⟩
  refine Finset.mem_biUnion.mpr ⟨n, Finset.mem_range.mpr hn, Finset.mem_image.mpr ⟨p, Finset.mem_univ _, ?_⟩⟩
  unfold keyAt
  rw [h]
  exact Fin.ext (by show 4096 * (j.val / 4096) + j.val % 4096 = j.val; omega)

end Cert.KernelIdeal.Ring
-- ==== Proof.Value.Reference.lean ====
/-
# The reference, at an index

For real queries and keys each row of the reference's result is the sum of weighted values over all keys divided by the
sum of the weights.
-/
module

public import proofs.«01_k».proof.Proof.Gen.ReferenceIdeal.Run
public import proofs.«01_k».proof.Proof.Value.Online
public import proofs.«01_k».proof.Proof.Value.Column
public import Idealize.ShloMosaic.Lib.StackMember
public import Idealize.ShloMosaic.Lib.IdealHost

@[expose] public section

noncomputable section

namespace Cert.ReferenceIdeal.Attention

open Cert.ReferenceIdeal Cert.ReferenceIdeal.Gen Cert.Softmax
open Idealize.ShloMosaic Idealize.ShloMosaic.ValueIdx Idealize.ShloMosaic.StackMember

/-- The scores as the reference computes them, -/
def scores (Q K : FVec Ideal S65536x512 .bf16) : FVec Ideal S65536x65536 .f32 :=
  Host.divf (Host.dotGeneral dot_S65536x512_S512x65536_S65536x65536_1_0_0_1_n_n none (extf .f32 Q bitsLt_bf16_f32)
      (transpose S512x65536 [1, 0] (extf .f32 K bitsLt_bf16_f32) transposes_S65536x512_S512x65536_1_0))
    (broadcastInDim S65536x65536 ![] bcast_S_S65536x65536 (Host.sqrt (constant S_ .f32 0x44000000#32)))

/-- the weights, -/
def weights (Q K : FVec Ideal S65536x512 .bf16) : FVec Ideal S65536x65536 .f32 :=
  Host.exp (subf (scores Q K) (broadcastInDim S65536x65536 ![0, 1] bcast_S65536x1_S65536x65536_0_1
    (broadcastInDim S65536x1 ![0] bcast_S65536_S65536x1_0
      (Host.reduce FloatOps.maximumf (scores Q K) (constant S_ .f32 0xFF800000#32) reducesTo_S65536x65536_S65536_d1 h_S_))))

/-- and the result. -/
def attention (Q K V : FVec Ideal S65536x512 .bf16) : FVec Ideal S65536x512 .f32 :=
  Host.dotGeneral dot_S65536x65536_S65536x512_S65536x512_1_0_0_1_n_n none
    (Host.divf (weights Q K) (broadcastInDim S65536x65536 ![0, 1] bcast_S65536x1_S65536x65536_0_1
      (broadcastInDim S65536x1 ![0] bcast_S65536_S65536x1_0
        (Host.reduceAdd (weights Q K) (constant S_ .f32 0x00000000#32) reducesTo_S65536x65536_S65536_d1 h_S_))))
    (extf .f32 V bitsLt_bf16_f32)

/-- The score of a row against a key, of real queries and keys. -/
def score (q k : S65536x512.Idx → ℝ) (R j : Fin 65536) : ℝ := (∑ d : Fin 512, q (ix2 R d) * k (ix2 j d)) * (Real.sqrt 512)⁻¹

theorem score_coe (q k : S65536x512.Idx → ℝ) (R j : Fin 65536) :
    (∑ d : Fin 512, (q (ix2 R d) : EReal) * (k (ix2 j d) : EReal)) * scale = (score q k R j : EReal) := by
  unfold score scale
  rw [EReal.coe_mul, coe_sum]
  rfl

variable (q k : S65536x512.Idx → ℝ) (V : S65536x512.Idx → EReal)

theorem scoreDims : dot_S65536x512_S512x65536_S65536x65536_1_0_0_1_n_n = DotDims.plain 65536 512 65536 := rfl
theorem blendDims : dot_S65536x65536_S65536x512_S65536x512_1_0_0_1_n_n = DotDims.plain 65536 65536 512 := rfl

theorem scores_apply (R j : Fin 65536) :
    scores (fun i => (q i : EReal)) (fun i => (k i : EReal)) (ix2 R j) = (score q k R j : EReal) := by
  unfold scores
  rw [hostDivf_apply, scoreDims, dotGeneral_plain_apply, broadcastInDim_scalar_apply]
  refine (div_sqrt _).trans ?_
  rw [← score_coe]
  refine congrArg (· * scale) (Finset.sum_congr rfl fun d _ => ?_)
  refine congrArg (fun x : EReal => (q (ix2 R d) : EReal) * x) ?_
  refine (transpose_apply (s := S65536x512) (t := S512x65536) [1, 0] _ _ (ix2 d j) (ix2 j d) fun b => ?_)
  match b with
  | ⟨0, _⟩ => rfl
  | ⟨1, _⟩ => rfl

theorem reduces_row : S65536x65536.Reduces [1] S65536 := by decide

theorem weights_apply (R j : Fin 65536) :
    weights (fun i => (q i : EReal)) (fun i => (k i : EReal)) (ix2 R j) = weight (score q k R) Finset.univ j := by
  unfold weights
  show Ideal.exp (scores _ _ (ix2 R j) - broadcastInDim _ _ _ _ (ix2 R j)) = _
  rw [hostRepeated_apply, hostColumn_apply, scores_apply, Host.reduce_eq_fold_single _ _ _ _ reduces_row]
  unfold weight top
  refine congrArg (fun x => Ideal.exp (_ - x)) ?_
  show Finset.fold max (Ideal.ofBits .f32 0xFF800000#32) _ _ = Finset.fold max ⊥ _ _
  rw [Cert.Literals.lowest_f32]
  exact Finset.fold_congr fun p _ => (congrArg _ (lift_row _ R p)).trans (scores_apply q k R p)

theorem mass_apply (R : Fin 65536) :
    Host.reduceAdd (weights (fun i => (q i : EReal)) (fun i => (k i : EReal))) (constant (F := Ideal) S_ .f32 0x00000000#32)
      reducesTo_S65536x65536_S65536_d1 h_S_ (ix1 R) = mass (score q k R) Finset.univ := by
  rw [hostReduceAdd_apply, Ideal.hostReduceAdd_single _ reduces_row]
  show Ideal.ofBits .f32 0x00000000#32 + _ = _
  rw [Ideal.ofBits_zero_f32, zero_add]
  exact Finset.sum_congr rfl fun p _ => (congrArg _ (lift_row _ R p)).trans (weights_apply q k R p)

/-- The reference's result at a row and a column. -/
theorem attention_apply (R : Fin 65536) (e : Fin 512) :
    attention (fun i => (q i : EReal)) (fun i => (k i : EReal)) V (ix2 R e)
      = Ideal.div (blend (score q k R) (fun j => V (ix2 j e)) Finset.univ) (mass (score q k R) Finset.univ) := by
  rw [blend_div _ _ Finset.univ_nonempty]
  unfold attention
  rw [blendDims, dotGeneral_plain_apply]
  refine Finset.sum_congr rfl fun j _ => congrArg (fun x : EReal => x * V (ix2 j e)) ?_
  rw [hostDivf_apply, hostRepeated_apply, hostColumn_apply, mass_apply, weights_apply]

end Cert.ReferenceIdeal.Attention
-- ==== Proof.Value.Kernel.lean ====
/-
# The kernel's result, at an index

After `n` rounds a row of the running values is the softmax over the keys seen: their largest score, their weights' sum,
their weighted values' sum. After sixteen rounds these are all keys.
-/
module

public import proofs.«01_k».proof.Proof.KI.Whole
public import proofs.«01_k».proof.Proof.Value.Row
public import proofs.«01_k».proof.Proof.Value.Seen
public import proofs.«01_k».proof.Proof.Value.Reference

@[expose] public section

noncomputable section

namespace Cert.KernelIdeal.Ring

open Cert.KernelIdeal Cert.KernelIdeal.Gen Cert.Softmax
open Cert.ReferenceIdeal.Attention (score score_coe)
open Idealize.ShloMosaic Idealize.ShloMosaic.ValueIdx

/-- The row of running values that a set of keys leaves. -/
def rowOver (s : Fin 65536 → ℝ) (V : Fin 65536 → Fin 512 → EReal) (J : Finset (Fin 65536)) : Row :=
  ⟨top s J, mass s J, fun e => blend s (fun j => V j e) J⟩

/-- A sum over a round's keys, by the block's rows. -/
theorem sum_part (c : Dev nD) (n : ℕ) (f : Fin 65536 → EReal) : ∑ j ∈ part c n, f j = ∑ p, f (keyAt c n p) :=
  Finset.sum_image fun _ _ _ _ h => keyAt_inj c n h

/-- Joining a block to a row is joining the block's keys to the keys seen. -/
theorem join_part (c : Dev nD) (n : ℕ) (s : Fin 65536 → ℝ) (V : Fin 65536 → Fin 512 → EReal) (J : Finset (Fin 65536))
    (hd : Disjoint J (part c n)) (v : S4096x512.Idx → EReal) (hv : ∀ p e, v (ix2 p e) = V (keyAt c n p) e) :
    joinRow (fun p => (s (keyAt c n p) : EReal)) v (rowOver s V J) = rowOver s V (J ∪ part c n) := by
  have ht : topOf (top s J) (fun p => (s (keyAt c n p) : EReal)) = top s (J ∪ part c n) := by
    rw [top_union]
    unfold topOf
    exact congrArg (max _) (Finset.sup_image Finset.univ (keyAt c n) fun j => (s j : EReal)).symm
  refine Row.ext ht ?_ (funext fun e => ?_)
  · unfold joinRow rowOver
    dsimp only
    rw [ht, ← mass_join s J _ (part_nonempty c n) hd, sum_part]
    rfl
  · unfold joinRow rowOver
    dsimp only
    rw [ht, ← blend_join s _ J _ (part_nonempty c n) hd, sum_part]
    simp only [hv]
    rfl

variable (A : Fin 2 → Dev nD → S4096x512.Idx → Elt Ideal .bf16) (q : S4096x512.Idx → Elt Ideal .bf16) (c : Dev nD)
  (qr kr : Cert.ReferenceIdeal.S65536x512.Idx → ℝ) (V : Cert.ReferenceIdeal.S65536x512.Idx → EReal)

/-- Before the first round no key is seen. -/
theorem row_start (s : Fin 65536 → ℝ) (V : Fin 65536 → Fin 512 → EReal) (r : Fin 4096) :
    rowOf (st₀ (F := Ideal)) r = rowOver s V ∅ := by
  refine Row.ext ?_ ?_ (funext fun e => ?_)
  · unfold rowOf rowOver st₀ k0_pay103
    dsimp only
    rw [shapeCast_self]
    exact Cert.Literals.lowest_f32
  · unfold rowOf rowOver st₀ k0_pay104
    dsimp only
    rw [shapeCast_self]
    exact Ideal.ofBits_zero_f32
  · unfold rowOf rowOver st₀ k0_pay105
    dsimp only
    rw [shapeCast_self]
    exact Ideal.ofBits_zero_f32

variable (hq : ∀ r d, q (ix2 r d) = (qr (ix2 (rowIn c r) d) : EReal))
  (hk : ∀ c p d, A 0 c (ix2 p d) = (kr (ix2 (rowIn c p) d) : EReal)) (hv : ∀ c p d, A 1 c (ix2 p d) = V (ix2 (rowIn c p) d))
include hq hk

/-- The scores against a round's block. -/
theorem score_block (n : ℕ) (r : Fin 4096) :
    scoreOf q (blockAt (F := Ideal) A 0 c n) r = fun p => (score qr kr (rowIn c r) (keyAt c n p) : EReal) := by
  funext p
  rw [← score_coe]
  refine congrArg (· * scale) (Finset.sum_congr rfl fun d _ => ?_)
  rw [hq]
  exact congrArg (fun x : EReal => (qr (ix2 (rowIn c r) d) : EReal) * x) (hk _ p d)

omit hq hk in
include hv in
/-- The values of a round's block. -/
theorem value_block (n : ℕ) (p : Fin 4096) (e : Fin 512) :
    blockAt (F := Ideal) A 1 c n (ix2 p e) = V (ix2 (keyAt c n p) e) := hv (src (halfOf p) c n) p e

include hv

/-- A row after `n` rounds. -/
theorem row_after (r : Fin 4096) (n : ℕ) (hn : n ≤ 16) :
    rowOf (stAt (F := Ideal) A q c n) r = rowOver (score qr kr (rowIn c r)) (fun j e => V (ix2 j e)) (seen c n) := by
  induction n with
  | zero => exact row_start _ _ r
  | succ n ih =>
    show rowOf (updateSt (F := Ideal) q (blockAt A 0 c n) (blockAt A 1 c n) (stAt A q c n)) r = _
    rw [update_row, ih (by omega), score_block A q c qr kr hq hk, seen_succ]
    exact join_part c n _ (fun j e => V (ix2 j e)) _ (seen_disjoint c n (by omega)) _ (value_block A c V hv n)

/-- The result at a row and a column. -/
theorem out_apply (r : Fin 4096) (e : Fin 512) :
    outOf (stAt (F := Ideal) A q c 16) (ix2 r e)
      = Ideal.div (blend (score qr kr (rowIn c r)) (fun j => V (ix2 j e)) Finset.univ) (mass (score qr kr (rowIn c r)) Finset.univ) := by
  have h := row_after A q c qr kr V hq hk hv r 16 le_rfl
  rw [seen_all] at h
  have ha : (stAt (F := Ideal) A q c 16).a (ix2 r e) = _ := congrFun (congrArg Row.a h) e
  have hl : (stAt (F := Ideal) A q c 16).l (ix2 r 0) = _ := congrArg Row.l h
  unfold outOf k0_pay3
  rw [divf_apply, repeated_apply, ha, hl]
  dsimp only [rowOver]

end Cert.KernelIdeal.Ring
-- ==== Proof.Value.Algebraic.lean ====
/-
# The kernel's blocks are the reference's

Where the devices hold the blocks of the reference's arrays and the queries and keys are finite, each device's result is
its block of the reference's result.
-/
module

public import proofs.«01_k».proof.Proof.KI.Final
public import proofs.«01_k».proof.Proof.Value.Kernel

@[expose] public section

noncomputable section

namespace Cert.KernelIdeal.Ring

open Cert.KernelIdeal Cert.KernelIdeal.Gen Cert.Softmax
open Cert.ReferenceIdeal.Attention (attention attention_apply)
open Idealize.ShloMosaic Idealize.ShloMosaic.TcCoe Idealize.ShloMosaic.ValueIdx

/-- Device `c`'s block of an array of all rows. -/
abbrev blockOf (c : Dev nD) (X : (⟨2, ![65536, 512]⟩ : Shape).Idx → EReal) : S4096x512.Idx → EReal :=
  Layout.block ⟨2, ![4096, 512]⟩ ⟨2, ![65536, 512]⟩ 0 16 c X

theorem blockOf_apply (c : Dev nD) (X : (⟨2, ![65536, 512]⟩ : Shape).Idx → EReal) (r : Fin 4096) (e : Fin 512) :
    blockOf c X (ix2 r e) = X (ix2 (rowIn c r) e) := by
  refine congrArg X (funext fun a => Fin.ext ?_)
  match a with
  | ⟨0, _⟩ => show c.val * 4096 + r.val = 4096 * c.val + r.val; omega
  | ⟨1, _⟩ => rfl

/-- An array all of whose blocks are real is real. -/
theorem real_of_blocks (X : (⟨2, ![65536, 512]⟩ : Shape).Idx → EReal) (h : ∀ c i, ∃ x : ℝ, blockOf c X i = (x : EReal))
    (i : (⟨2, ![65536, 512]⟩ : Shape).Idx) : ∃ x : ℝ, X i = (x : EReal) := by
  obtain ⟨R, e, rfl⟩ : ∃ (R : Fin 65536) (e : Fin 512), i = ix2 R e := ⟨i 0, i 1, eq_ix2 i⟩
  have hR := R.isLt
  let c : Dev nD := ⟨R.val / 4096, by show _ < 16; omega⟩
  let r : Fin 4096 := ⟨R.val % 4096, by omega⟩
  have hc : rowIn c r = R := Fin.ext (by show 4096 * (R.val / 4096) + R.val % 4096 = R.val; omega)
  obtain ⟨x, hx⟩ := h c (ix2 r e)
  exact ⟨x, by rw [← hx, blockOf_apply, hc]⟩

variable (m : (ℓ : Loc nD τ sig) → Buf (Elt Ideal) ℓ) (Q K V : (⟨2, ![65536, 512]⟩ : Shape).Idx → EReal)

/-- The block a device's run leaves. -/
theorem result_block (hQ : ∀ i, ∃ x : ℝ, Q i = (x : EReal)) (hK : ∀ i, ∃ x : ℝ, K i = (x : EReal))
    (h0 : ∀ c : Dev nD, m ((c : Thread nD τ).loc main_arg0) = blockOf c Q)
    (h1 : ∀ c : Dev nD, m ((c : Thread nD τ).loc main_arg1) = blockOf c K)
    (h2 : ∀ c : Dev nD, m ((c : Thread nD τ).loc main_arg2) = blockOf c V) (c : Dev nD) :
    resultOf m c = blockOf c (attention Q K V) := by
  choose q hq using hQ
  choose k hk using hK
  obtain rfl : Q = fun i => (q i : EReal) := funext hq
  obtain rfl : K = fun i => (k i : EReal) := funext hk
  funext i
  obtain ⟨r, e, rfl⟩ : ∃ (r : Fin 4096) (e : Fin 512), i = ix2 r e := ⟨i 0, i 1, eq_ix2 i⟩
  rw [blockOf_apply, attention_apply]
  unfold resultOf
  refine out_apply (blocksOf m) (qryOf m c) c q k V (fun r d => ?_) (fun c p d => ?_) (fun c p d => ?_) r e
  · rw [qryOf_eq, h0]; exact blockOf_apply c _ r d
  · rw [keys_eq, h1]; exact blockOf_apply c _ p d
  · rw [values_eq, h2]; exact blockOf_apply c _ p d

end Cert.KernelIdeal.Ring
-- ==== Proof.lean ====
/-
# The claims

The kernel's run is proved once (Proof/KI) and read at three places: at the operations on bits, where it is the printed
program's (Proof/K), at the exact ones, and against the reference's values.
-/
module

public import proofs.«01_k».proof.Defs
public import proofs.«01_k».proof.Proof.K.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Value.Finite
public import proofs.«01_k».proof.Proof.Value.Algebraic
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Ring.run_kept m ρ

theorem frame_ideal : Cert.quiescent_KernelIdeal := fun m ρ _ =>
  (θ_run _ _ _).mono (fun _ h => ⟨fun c => (h.1 c).2, h.2⟩) (Cert.KernelIdeal.Ring.run_values m ρ)

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The table gives `"s"` the value `(√512)⁻¹`. -/
theorem preserves : Cert.preserves_Kernel_KernelIdeal :=
  IdealRules.named_const.statement Cert.KernelIdeal.κ "s" .f32 0x3D3504F3#32 (((Real.sqrt 512)⁻¹ : ℝ) : EReal) rfl

/-- Under a precondition a frame claims no more. -/
theorem frame_ideal_pre : Cert.quiescent_KernelIdeal_pre_finite_scores_KernelIdeal := fun m ρ _ => frame_ideal m ρ trivial
theorem frame_reference_pre : Cert.quiescent_ReferenceIdeal_pre_finite_scores_ReferenceIdeal := fun m ρ _ => frame_reference m ρ trivial

/-- For finite queries and keys every device ends with its block of the reference's result. -/
theorem algebraic : Cert.algebraic_KernelIdeal_ReferenceIdeal_pre_finite_scores_KernelIdeal := fun m g m' g' hpre hblk => by
  have hreal := fun c => Cert.Pre_finite_scores_KernelIdeal.Read.reals _ _ _ (hpre c)
  refine ⟨Cert.ReferenceIdeal.Attention.attention (m' (Thread.loc (0 : Dev Cert.ReferenceIdeal.nD).tc Cert.ReferenceIdeal.main_arg0))
    (m' (Thread.loc (0 : Dev Cert.ReferenceIdeal.nD).tc Cert.ReferenceIdeal.main_arg1))
    (m' (Thread.loc (0 : Dev Cert.ReferenceIdeal.nD).tc Cert.ReferenceIdeal.main_arg2)), ?_, ?_⟩
  · refine (θ_run _ _ _).mono (fun _ h c => ⟨(h.1 c).1.trans ?_, (h.1 c).2⟩) (Cert.KernelIdeal.Ring.run_values m g)
    refine Cert.KernelIdeal.Ring.result_block m _ _ _ (Cert.KernelIdeal.Ring.real_of_blocks _ fun c i => ?_)
      (Cert.KernelIdeal.Ring.real_of_blocks _ fun c i => ?_) (fun c => (hblk c).1) (fun c => (hblk c).2.1) (fun c => (hblk c).2.2) c
    · have := (hreal c).1 i; rwa [(hblk c).1] at this
    · have := (hreal c).2 i; rwa [(hblk c).2.1] at this
  · exact (θ_run _ _ _).mono (fun _ h => h 0) (Cert.ReferenceIdeal.Value.run m' g')

theorem claim : Cert.Claim :=
  ⟨Cert.Kernel.Gen.facts, Cert.KernelIdeal.Gen.facts, Cert.ReferenceIdeal.Gen.facts, Cert.Pre_finite_scores_KernelIdeal.Gen.facts,
    Cert.Pre_finite_scores_ReferenceIdeal.Gen.facts, frame_kernel, frame_ideal, frame_ideal_pre, frame_reference, frame_reference_pre,
    preserves, algebraic⟩

end Cert.Proof

end
